-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x7168 : Shape := ⟨3, ![2, 1024, 7168]⟩
abbrev S2112x7168 : Shape := ⟨2, ![2112, 7168]⟩
abbrev S17x56 : Shape := ⟨2, ![17, 56]⟩
abbrev S1536 : Shape := ⟨1, ![1536]⟩
abbrev S512 : Shape := ⟨1, ![512]⟩
abbrev S_ : Shape := ⟨0, ![]⟩

class Facts : Prop where
  bcast_S_S2x1024x7168 : S_.BroadcastsInDim S2x1024x7168 (![] : Fin 0 → Fin S2x1024x7168.rank)
  reducesTo_S2x1024x7168_S_d0_1_2 : S2x1024x7168.ReducesTo [0, 1, 2] S_
  h_S_ : 0 < S_.numel
  bcast_S_S1536 : S_.BroadcastsInDim S1536 (![] : Fin 0 → Fin S1536.rank)
  reducesTo_S1536_S_d0 : S1536.ReducesTo [0] S_

variable [Facts]

def fn {F : FTy → Type} [FloatOps F] (main_arg0 : FVec F S2x1024x7168 .bf16) (main_arg1 : FVec F S2112x7168 .fp8e4m3) (main_arg2 : FVec F S17x56 .f32) (main_arg3 : FVec F S1536 .f32) (main_arg4 : FVec F S512 .f32) : IVec S_ 1 :=
  let main_v0 : FVec F S2x1024x7168 .bf16 := Host.absf main_arg0
  let main_cst : FVec F S_ .bf16 := constant S_ .bf16 0x7F7F#16
  let main_v1 : FVec F S2x1024x7168 .bf16 := broadcastInDim S2x1024x7168 ![] bcast_S_S2x1024x7168 main_cst
  let main_v2 : IVec S2x1024x7168 1 := cmpf .ole main_v0 main_v1
  let main_c : IVec S_ 1 := constantI S_ 1 1#1
  let main_v3 : IVec S_ 1 := (fun x v => Host.reduce IntOp.andi x v reducesTo_S2x1024x7168_S_d0_1_2 h_S_) main_v2 main_c
  let main_v4 : FVec F S1536 .f32 := Host.absf main_arg3
  let main_cst_0 : FVec F S_ .f32 := constant S_ .f32 0x7F7F0000#32
  let main_v5 : FVec F S1536 .f32 := broadcastInDim S1536 ![] bcast_S_S1536 main_cst_0
  let main_v6 : IVec S1536 1 := cmpf .ole main_v4 main_v5
  let main_c_1 : IVec S_ 1 := constantI S_ 1 1#1
  let main_v7 : IVec S_ 1 := (fun x v => Host.reduce IntOp.andi x v reducesTo_S1536_S_d0 h_S_) main_v6 main_c_1
  let main_v8 : IVec S_ 1 := andi main_v3 main_v7
  main_v8
-- ==== Kernel.lean ====
abbrev S2x1024x7168 : Shape := ⟨3, ![2, 1024, 7168]⟩
abbrev S2112x7168 : Shape := ⟨2, ![2112, 7168]⟩
abbrev S17x56 : Shape := ⟨2, ![17, 56]⟩
abbrev S1536 : Shape := ⟨1, ![1536]⟩
abbrev S512 : Shape := ⟨1, ![512]⟩
abbrev S2048x7168 : Shape := ⟨2, ![2048, 7168]⟩
abbrev S1x1536 : Shape := ⟨2, ![1, 1536]⟩
abbrev S1x512 : Shape := ⟨2, ![1, 512]⟩
abbrev S2048x1536 : Shape := ⟨2, ![2048, 1536]⟩
abbrev S2048x12 : Shape := ⟨2, ![2048, 12]⟩
abbrev S2048x512 : Shape := ⟨2, ![2048, 512]⟩
abbrev S2048x64 : Shape := ⟨2, ![2048, 64]⟩
abbrev S2048x56 : Shape := ⟨2, ![2048, 56]⟩
abbrev S256x7168 : Shape := ⟨2, ![256, 7168]⟩
abbrev S256x1536 : Shape := ⟨2, ![256, 1536]⟩
abbrev S256x12 : Shape := ⟨2, ![256, 12]⟩
abbrev S256x512 : Shape := ⟨2, ![256, 512]⟩
abbrev S256x64 : Shape := ⟨2, ![256, 64]⟩
abbrev S256x56 : Shape := ⟨2, ![256, 56]⟩
abbrev S256x2112 : Shape := ⟨2, ![256, 2112]⟩
abbrev S2112x1024 : Shape := ⟨2, ![2112, 1024]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x1024 : Shape := ⟨2, ![256, 1024]⟩
abbrev S1x1 : Shape := ⟨2, ![1, 1]⟩
abbrev S1x128 : Shape := ⟨2, ![1, 128]⟩
abbrev S128x128 : Shape := ⟨2, ![128, 128]⟩
abbrev S64x128 : Shape := ⟨2, ![64, 128]⟩

abbrev nBuf : Space → Nat
  | .hbm => 14
  | .vmem => 19
  | .smem => 1
  | _ => 0

abbrev bufTy : (tb : Table) → Fin (tcTables nBuf tb) → BufTy
  | .hbm, ⟨0, _⟩ => ⟨S2x1024x7168, .bf16⟩
  | .hbm, ⟨1, _⟩ => ⟨S2112x7168, .fp8e4m3⟩
  | .hbm, ⟨2, _⟩ => ⟨S17x56, .f32⟩
  | .hbm, ⟨3, _⟩ => ⟨S1536, .f32⟩
  | .hbm, ⟨4, _⟩ => ⟨S512, .f32⟩
  | .hbm, ⟨5, _⟩ => ⟨S2048x7168, .bf16⟩
  | .hbm, ⟨6, _⟩ => ⟨S1x1536, .f32⟩
  | .hbm, ⟨7, _⟩ => ⟨S1x512, .f32⟩
  | .hbm, ⟨8, _⟩ => ⟨S2048x1536, .fp8e4m3⟩
  | .hbm, ⟨9, _⟩ => ⟨S2048x12, .f32⟩
  | .hbm, ⟨10, _⟩ => ⟨S2048x512, .bf16⟩
  | .hbm, ⟨11, _⟩ => ⟨S2048x64, .bf16⟩
  | .hbm, ⟨12, _⟩ => ⟨S2048x7168, .fp8e4m3⟩
  | .hbm, ⟨13, _⟩ => ⟨S2048x56, .f32⟩
  | .local _ .vmem, ⟨0, _⟩ => ⟨S256x7168, .bf16⟩
  | .local _ .vmem, ⟨1, _⟩ => ⟨S256x7168, .bf16⟩
  | .local _ .vmem, ⟨2, _⟩ => ⟨S2112x7168, .fp8e4m3⟩
  | .local _ .vmem, ⟨3, _⟩ => ⟨S1x1536, .f32⟩
  | .local _ .vmem, ⟨4, _⟩ => ⟨S1x512, .f32⟩
  | .local _ .vmem, ⟨5, _⟩ => ⟨S256x1536, .fp8e4m3⟩
  | .local _ .vmem, ⟨6, _⟩ => ⟨S256x1536, .fp8e4m3⟩
  | .local _ .vmem, ⟨7, _⟩ => ⟨S256x12, .f32⟩
  | .local _ .vmem, ⟨8, _⟩ => ⟨S256x12, .f32⟩
  | .local _ .vmem, ⟨9, _⟩ => ⟨S256x512, .bf16⟩
  | .local _ .vmem, ⟨10, _⟩ => ⟨S256x512, .bf16⟩
  | .local _ .vmem, ⟨11, _⟩ => ⟨S256x64, .bf16⟩
  | .local _ .vmem, ⟨12, _⟩ => ⟨S256x64, .bf16⟩
  | .local _ .vmem, ⟨13, _⟩ => ⟨S256x7168, .fp8e4m3⟩
  | .local _ .vmem, ⟨14, _⟩ => ⟨S256x7168, .fp8e4m3⟩
  | .local _ .vmem, ⟨15, _⟩ => ⟨S256x56, .f32⟩
  | .local _ .vmem, ⟨16, _⟩ => ⟨S256x56, .f32⟩
  | .local _ .vmem, ⟨17, _⟩ => ⟨S256x2112, .f32⟩
  | .local _ .vmem, ⟨18, _⟩ => ⟨S2112x1024, .bf16⟩
  | .local _ .smem, ⟨0, _⟩ => ⟨S17x56, .f32⟩
  | _, _ => ⟨S2x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S17x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2112x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x12 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x7168 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x56 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x1024x7168 : Shape := ⟨3, ![2, 1024, 7168]⟩
abbrev S2112x7168 : Shape := ⟨2, ![2112, 7168]⟩
abbrev S17x56 : Shape := ⟨2, ![17, 56]⟩
abbrev S1536 : Shape := ⟨1, ![1536]⟩
abbrev S512 : Shape := ⟨1, ![512]⟩
abbrev S2048x7168 : Shape := ⟨2, ![2048, 7168]⟩
abbrev S1x1536 : Shape := ⟨2, ![1, 1536]⟩
abbrev S1x512 : Shape := ⟨2, ![1, 512]⟩
abbrev S2048x1536 : Shape := ⟨2, ![2048, 1536]⟩
abbrev S2048x12 : Shape := ⟨2, ![2048, 12]⟩
abbrev S2048x512 : Shape := ⟨2, ![2048, 512]⟩
abbrev S2048x64 : Shape := ⟨2, ![2048, 64]⟩
abbrev S2048x56 : Shape := ⟨2, ![2048, 56]⟩
abbrev S2048x56x128 : Shape := ⟨3, ![2048, 56, 128]⟩
abbrev S2048x56x254 : Shape := ⟨3, ![2048, 56, 254]⟩
abbrev S2048x56x1 : Shape := ⟨3, ![2048, 56, 1]⟩
abbrev S17x1x56 : Shape := ⟨3, ![17, 1, 56]⟩
abbrev S17x128x56 : Shape := ⟨3, ![17, 128, 56]⟩
abbrev S2176x56 : Shape := ⟨2, ![2176, 56]⟩
abbrev S2112x56 : Shape := ⟨2, ![2112, 56]⟩
abbrev S2112x56x128 : Shape := ⟨3, ![2112, 56, 128]⟩
abbrev S2112x56x1 : Shape := ⟨3, ![2112, 56, 1]⟩
abbrev S2048x2112 : Shape := ⟨2, ![2048, 2112]⟩
abbrev S2048 : Shape := ⟨1, ![2048]⟩
abbrev S2048x1 : Shape := ⟨2, ![2048, 1]⟩
abbrev S2048x12x128 : Shape := ⟨3, ![2048, 12, 128]⟩
abbrev S2048x12x254 : Shape := ⟨3, ![2048, 12, 254]⟩
abbrev S2048x12x1 : Shape := ⟨3, ![2048, 12, 1]⟩

abbrev nBuf : Space → Nat
  | .hbm => 14
  | .vmem => 11
  | .smem => 0
  | _ => 0

abbrev bufTy : (tb : Table) → Fin (tcTables nBuf tb) → BufTy
  | .hbm, ⟨0, _⟩ => ⟨S2x1024x7168, .bf16⟩
  | .hbm, ⟨1, _⟩ => ⟨S2112x7168, .fp8e4m3⟩
  | .hbm, ⟨2, _⟩ => ⟨S17x56, .f32⟩
  | .hbm, ⟨3, _⟩ => ⟨S1536, .f32⟩
  | .hbm, ⟨4, _⟩ => ⟨S512, .f32⟩
  | .hbm, ⟨5, _⟩ => ⟨S2048x7168, .bf16⟩
  | .hbm, ⟨6, _⟩ => ⟨S1x1536, .f32⟩
  | .hbm, ⟨7, _⟩ => ⟨S1x512, .f32⟩
  | .hbm, ⟨8, _⟩ => ⟨S2048x1536, .fp8e4m3⟩
  | .hbm, ⟨9, _⟩ => ⟨S2048x12, .f32⟩
  | .hbm, ⟨10, _⟩ => ⟨S2048x512, .bf16⟩
  | .hbm, ⟨11, _⟩ => ⟨S2048x64, .bf16⟩
  | .hbm, ⟨12, _⟩ => ⟨S2048x7168, .fp8e4m3⟩
  | .hbm, ⟨13, _⟩ => ⟨S2048x56, .f32⟩
  | .local _ .vmem, ⟨0, _⟩ => ⟨S2048x7168, .bf16⟩
  | .local _ .vmem, ⟨1, _⟩ => ⟨S2112x7168, .fp8e4m3⟩
  | .local _ .vmem, ⟨2, _⟩ => ⟨S17x56, .f32⟩
  | .local _ .vmem, ⟨3, _⟩ => ⟨S1x1536, .f32⟩
  | .local _ .vmem, ⟨4, _⟩ => ⟨S1x512, .f32⟩
  | .local _ .vmem, ⟨5, _⟩ => ⟨S2048x1536, .fp8e4m3⟩
  | .local _ .vmem, ⟨6, _⟩ => ⟨S2048x12, .f32⟩
  | .local _ .vmem, ⟨7, _⟩ => ⟨S2048x512, .bf16⟩
  | .local _ .vmem, ⟨8, _⟩ => ⟨S2048x64, .bf16⟩
  | .local _ .vmem, ⟨9, _⟩ => ⟨S2048x7168, .fp8e4m3⟩
  | .local _ .vmem, ⟨10, _⟩ => ⟨S2048x56, .f32⟩
  | _, _ => ⟨S2x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2048x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x56 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Own.lean ====
module

public import Idealize.ShloMosaic.Lib.Pipeline.FrameBody
public import Idealize.ShloMosaic.Lib.Memref
public import Idealize.ShloMosaic.Lib.Ring
public import Idealize.ShloMosaic.Lib.Tactic
public import Idealize.ShloMosaic.Lib.Pipeline.Frame

/-!
  A buffer owned at contents of which something is known, and the rules by which it is loaded and stored.
-/

@[expose] public section

noncomputable section

namespace Cert.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Λ : Labels} {F : FTy → Type} [FloatOps F]

local notation "𝕄" => MT nD τ sig Unit (Elt F) ℕ (UR sig nD τ) ℕ

/-- Core `c` owns the whole memref at some contents of which `P` holds. -/
def own (c : Thread nD τ) {sp : Space} {sh : Shape} {e : EltTy} (m : Memref sig c.2.kind sp sh e) (P : (sh.Idx → Elt F e) → Prop) : sProp 𝕄 :=
  iprop(∃ X, ⌜P X⌝ ∗ owns c m fullShare X)

variable {defs : Defs nD τ sig (Elt F) Λ} (c : Thread nD τ) (E : Set ℕ)
variable {sh : Shape} {e : EltTy} {α : Type} {cs : CoreSpace}

/-- A load through a rectangle continues at what the memref holds there. -/
theorem load_own {Q : α → sProp 𝕄} {S R : sProp 𝕄} {m : Memref sig c.2.kind cs sh e} {P : (sh.Idx → Elt F e) → Prop} (hS : S = iprop(own c m P ∗ R))
    {r : Rect sh} {hl : m.view.LoadsAt r.toLoadRect} {k : (r.toLoadRect.shape.Idx → Elt F e) → Prog (TpuEff nD τ sig (Elt F) Λ c.2) α}
    (h : ∀ X, P X → S ⊢ wp frame (wpE defs Variants.none c none) E (k fun i => X (r.emb i)) Q) :
    S ⊢ wp frame (wpE defs Variants.none c none) E (.op (.load m r.toLoadRect hl) k) Q := by
  have h' : ∀ X, P X → iprop(owns c m fullShare X ∗ R) ⊢ wp frame (wpE defs Variants.none c none) E (k fun i => X (r.emb i)) Q := by
    intro X hX
    refine BIBase.Entails.trans ?_ (h X hX)
    rw [hS]; unfold own
    iintro ⟨H, HR⟩
    isplitl [H]
    · iexists X; isplitr; · ipureintro; exact hX
      iexact H
    iexact HR
  rw [hS]; unfold own
  iintro ⟨⟨%X, %hX, H⟩, HR⟩
  unfold owns at *
  icases H with ⟨%f, %hf, H⟩
  iapply (wp_load_rect Variants.none c none E (m := m) (r := r) (hl := hl) (k := k) (q := fullShare) (f := f) (Q := Q) (View.set_slice_subset _ _)) $$ H
  iintro H
  have h2 := h' X hX
  rw [← hf] at h2
  iapply h2
  isplitl [H]
  · iexists f; isplitr; · ipureintro; rfl
    iexact H
  iexact HR

/-- A store through a rectangle leaves contents that are the stored vector there and what they were elsewhere. -/
theorem store_own {Q : α → sProp 𝕄} {S R S' : sProp 𝕄} {m : Memref sig c.2.kind cs sh e} {P P' : (sh.Idx → Elt F e) → Prop} (hS : S = iprop(own c m P ∗ R))
    (hS' : S' = iprop(own c m P' ∗ R))
    {r : Rect sh} {w : r.shape.Idx → Elt F e} {hx : (m.access r).Stores Finset.univ} {hm : Finset.univ = Finset.univ ∨ ∀ a, r.stride a = 1}
    {k : PUnit → Prog (TpuEff nD τ sig (Elt F) Λ c.2) α}
    (hP : ∀ X Y, P X → (∀ i, Y (r.emb i) = w i) → (∀ y, y ∉ r.set → Y y = X y) → P' Y)
    (h : S' ⊢ wp frame (wpE defs Variants.none c none) E (k ⟨⟩) Q) :
    S ⊢ wp frame (wpE defs Variants.none c none) E (.op (.store m r w Finset.univ hx hm) k) Q := by
  rw [hS] ; rw [hS'] at h; unfold own at *
  iintro ⟨⟨%X, %hX, H⟩, HR⟩
  unfold owns at *
  icases H with ⟨%f, %hf, H⟩
  iapply (wp_store Variants.none c none E (m := m) (r := r) (w := w) (Mk := Finset.univ) (hx := hx) (hm := hm) (k := k) (f := f) (Q := Q) (by rw [View.setOn_univ]; exact View.set_slice_subset _ _)) $$ H
  iintro H
  iapply h
  isplitl [H]
  · iexists _
    isplitr
    swap
    · iexists _; isplitr; swap; · iexact H
      ipureintro; rfl
    · ipureintro
      refine hP X _ hX (fun i => ?_) (fun y hy => ?_)
      · exact View.read_slice_write_emb r _ w (Finset.mem_univ i)
      · rw [← hf]
        exact View.read_slice_write_of_not_mem r _ _ _ (by rw [Rect.map_emb_univ]; exact hy)
  iexact HR

end Cert.Body

end
-- ==== Proof.Body.lean ====
module

public import proofs.«01_k».proof.Proof.Own
public import Idealize.ShloMosaic.PureOps

/-!
  The kernel's body, once for both of its printed forms: what each of its buffers holds, as plain functions of the
  five blocks it reads, and the rules by which its loads and stores are run against those functions.
-/

@[expose] public section

set_option maxRecDepth 16384

noncomputable section

namespace Cert.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Shapes -/

abbrev S17x56 : Shape := ⟨2, ![17, 56]⟩
abbrev S1x1536 : Shape := ⟨2, ![1, 1536]⟩
abbrev S1x512 : Shape := ⟨2, ![1, 512]⟩
abbrev S256x7168 : Shape := ⟨2, ![256, 7168]⟩
abbrev S2112x7168 : Shape := ⟨2, ![2112, 7168]⟩
abbrev S256x1536 : Shape := ⟨2, ![256, 1536]⟩
abbrev S256x12 : Shape := ⟨2, ![256, 12]⟩
abbrev S256x512 : Shape := ⟨2, ![256, 512]⟩
abbrev S256x64 : Shape := ⟨2, ![256, 64]⟩
abbrev S256x56 : Shape := ⟨2, ![256, 56]⟩
abbrev S256x2112 : Shape := ⟨2, ![256, 2112]⟩
abbrev S2112x1024 : Shape := ⟨2, ![2112, 1024]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x1024 : Shape := ⟨2, ![256, 1024]⟩
abbrev S1x1 : Shape := ⟨2, ![1, 1]⟩
abbrev S1x128 : Shape := ⟨2, ![1, 128]⟩
abbrev S128x128 : Shape := ⟨2, ![128, 128]⟩
abbrev S64x128 : Shape := ⟨2, ![64, 128]⟩

/-- A rectangle of a matrix lies inside it when its rows and its columns do. -/
theorem inb2 {d s : Fin 2 → ℕ} {a b : ℕ} (h : a + s 0 ≤ d 0 ∧ b + s 1 ≤ d 1) : ∀ k, (![a, b] : Fin 2 → ℕ) k + s k ≤ (⟨2, d⟩ : Shape).size k := by
  intro k
  rcases k with ⟨_ | _ | n, hk⟩
  · exact h.1
  · exact h.2
  · exact absurd hk (by simp)

variable {F : FTy → Type} [FloatOps F]

/-- The five blocks the body reads. -/
structure Ins (F : FTy → Type) where
  x1 : Vec F S17x56 .f32
  x2 : Vec F S256x7168 .bf16
  x3 : Vec F S2112x7168 .fp8e4m3
  x4 : Vec F S1x1536 .f32
  x5 : Vec F S1x512 .f32

/-! ## One quantised block of 128 columns -/

/-- A row's largest absolute value over 448. -/
def amax (v : FVec F S256x128 .f32) : FVec F S256x1 .f32 :=
  mulf (shapeCast S256x1 (multiReduction .maximumf [1] S256 (absf v) 0xFF800000#32 (by decide) (.inl rfl) rfl) (by decide))
    (broadcast S256x1 (Scalar.ofBits .f32 0x3B124925#32))

/-- The exponent field of a row's value, by counting the powers of two it reaches. -/
def field (m : FVec F S256x1 .f32) : IVec S256x1 32 :=
  shapeCast S256x1 (multiReductionI .add [1] S256
    (select (ori (cmpi .eq (iota .tc S256x256 32 [1] (by decide)) (broadcast S256x256 0#32))
      (cmpf .olt (broadcastTo S256x256 m (by decide))
        (bitcastToFloat .f32 (shli (iota .tc S256x256 32 [1] (by decide)) (broadcast S256x256 23#32)))))
      (broadcast S256x256 0#32) (broadcast S256x256 8388608#32)) 0#32 (by decide) rfl) (by decide)

/-- The bits of a row's scale. -/
def sbits (v : FVec F S256x128 .f32) : IVec S256x1 32 :=
  select (cmpi .eq (field (amax v)) (broadcast S256x1 0#32)) (broadcast S256x1 1065353216#32)
    (addi (field (amax v)) (broadcast S256x1 8388608#32))

/-- A row's scale. -/
def scale (v : FVec F S256x128 .f32) : FVec F S256x1 .f32 := bitcastToFloat .f32 (sbits v)

/-- The inverse of a row's scale. -/
def inv (v : FVec F S256x128 .f32) : FVec F S256x1 .f32 :=
  bitcastToFloat .f32 (subi (broadcast S256x1 2130706432#32) (sbits v))

/-- A block's codes. -/
def codes (v : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32)) (mulf v (broadcastTo S256x128 (inv v) (by decide))))) (by decide)

/-- A block's values after quantising. -/
def part (v : FVec F S256x128 .f32) : FVec F S256x128 .bf16 :=
  mulf (extf .bf16 (codes v) (by decide)) (broadcastTo S256x128 (truncf .bf16 (scale v) (by decide)) (by decide))

/-! ## The activations -/

/-- The 128 activation columns from column `o` on. -/
def xblk (x : Ins F) (o : ℕ) : FVec F S256x128 .f32 :=
  if h : 0 + 256 ≤ 256 ∧ o + 128 ≤ 7168 then
    extf .f32 (shapeCast (s := S256x128) S256x128 (fun i => x.x2 ((Rect.unit (s := S256x7168) ![0, o] S256x128.size (inb2 h)).emb i)) (by decide)) (by decide)
  else broadcast S256x128 (Scalar.ofBits .f32 0#32)

/-- The codes of the activations. -/
def XC (x : Ins F) : Vec F S256x7168 .fp8e4m3 := fun y =>
  codes (xblk x (128 * ((y 1 : ℕ) / 128))) (Shape.pair (y 0) ⟨(y 1 : ℕ) % 128, Nat.mod_lt _ (by decide)⟩)

/-- The scales of the first `n` activation blocks. -/
def xsV (x : Ins F) : ℕ → FVec F S256x56 .f32
  | 0 => broadcast S256x56 (Scalar.ofBits .f32 0x00000000#32)
  | n + 1 => select (cmpi .eq (iota .tc S256x56 32 [1] (by decide)) (broadcast S256x56 (BitVec.ofNat 32 n)))
      (broadcastTo S256x56 (shapeCast S256x1 (scale (xblk x (128 * n))) (by decide)) (by decide)) (xsV x n)

/-! ## The weights -/

/-- The scale of the weights in rows from `128 * a` and columns from `128 * b` on. -/
def wsc (x : Ins F) (a b : ℕ) : F .f32 :=
  if h : a + 1 ≤ 17 ∧ b + 1 ≤ 56 then
    x.x1 ((Rect.unit (s := S17x56) ![a, b] S1x1.size (inb2 h)).emb (Shape.Idx.first (s := S1x1) (by decide)))
  else Scalar.ofBits .f32 0#32

/-- A block of 128 rows of the scaled weights: rows from `a`, columns from `1024 * c + b`. -/
def wcell (x : Ins F) (c a b : ℕ) : FVec F S128x128 .bf16 :=
  if h : a + 128 ≤ 2112 ∧ (1024 * c + b) + 128 ≤ 7168 then
    shapeCast (s := S128x128) S128x128 (mulf (extf .bf16 (fun i => x.x3 ((Rect.unit (s := S2112x7168) ![a, 1024 * c + b] S128x128.size (inb2 h)).emb i)) (by decide))
      (broadcastTo S128x128 (truncf .bf16 (broadcast S1x128 (wsc x (a / 128) (8 * c + b / 128))) (by decide)) (by decide))) (by decide)
  else broadcast S128x128 (Scalar.ofBits .bf16 0#16)

/-- A block of 64 rows of the scaled weights: rows from `a`, columns from `1024 * c + b`. -/
def wcell' (x : Ins F) (c a b : ℕ) : FVec F S64x128 .bf16 :=
  if h : a + 64 ≤ 2112 ∧ (1024 * c + b) + 128 ≤ 7168 then
    shapeCast (s := S64x128) S64x128 (mulf (extf .bf16 (fun i => x.x3 ((Rect.unit (s := S2112x7168) ![a, 1024 * c + b] S64x128.size (inb2 h)).emb i)) (by decide))
      (broadcastTo S64x128 (truncf .bf16 (broadcast S1x128 (wsc x (a / 128) (8 * c + b / 128))) (by decide)) (by decide))) (by decide)
  else broadcast S64x128 (Scalar.ofBits .bf16 0#16)

/-- Chunk `c` of the scaled weights: 1024 of their columns. -/
def Wf (x : Ins F) (c : ℕ) : Vec F S2112x1024 .bf16 := fun y =>
  if h : (y 0 : ℕ) < 2048 then
    wcell x c (128 * ((y 0 : ℕ) / 128)) (128 * ((y 1 : ℕ) / 128))
      (Shape.pair (d := ![128, 128]) ⟨(y 0 : ℕ) % 128, Nat.mod_lt _ (by decide)⟩ ⟨(y 1 : ℕ) % 128, Nat.mod_lt _ (by decide)⟩)
  else
    wcell' x c 2048 (128 * ((y 1 : ℕ) / 128))
      (Shape.pair (d := ![64, 128]) ⟨(y 0 : ℕ) - 2048, by have := (y 0).isLt; simp at this h ⊢; omega⟩ ⟨(y 1 : ℕ) % 128, Nat.mod_lt _ (by decide)⟩)

/-! ## The product -/

/-- Rows times rows: both factors are summed along their second axis. -/
def dotD : DotDims S256x1024 S2112x1024 S256x2112 where
  lhsContracting := [1]
  rhsContracting := [1]
  lhsNonContracting := [0]
  rhsNonContracting := [0]
  lhsBatch := []
  rhsBatch := []
  wf := by decide

/-- Eight blocks of 128 columns make one of 1024. -/
theorem concatD : Shape.Concatenates [S256x128, S256x128, S256x128, S256x128, S256x128, S256x128, S256x128, S256x128] S256x1024 1 := by decide

/-- Chunk `c` of the quantised activations: 1024 of their columns. -/
def Xf (x : Ins F) (c : ℕ) : FVec F S256x1024 .bf16 :=
  concatenate S256x1024 1 [⟨S256x128, part (xblk x (1024 * c))⟩, ⟨S256x128, part (xblk x (1024 * c + 128))⟩,
    ⟨S256x128, part (xblk x (1024 * c + 256))⟩, ⟨S256x128, part (xblk x (1024 * c + 384))⟩, ⟨S256x128, part (xblk x (1024 * c + 512))⟩,
    ⟨S256x128, part (xblk x (1024 * c + 640))⟩, ⟨S256x128, part (xblk x (1024 * c + 768))⟩, ⟨S256x128, part (xblk x (1024 * c + 896))⟩] concatD

/-- The accumulator with chunk `c`'s product added to what it held. -/
def accStep (x : Ins F) (c : ℕ) (a : FVec F S256x2112 .f32) : FVec F S256x2112 .f32 :=
  shapeCast S256x2112 (addf (fun i => a ((Rect.unit (s := S256x2112) ![0, 0] S256x2112.size (inb2 (by decide))).emb i))
    (matmul dotD none (Xf x c) (fun i => Wf x c ((Rect.unit (s := S2112x1024) ![0, 0] S2112x1024.size (inb2 (by decide))).emb i))
      (constant S256x2112 .f32 0x00000000#32))) (by decide)

/-- The accumulator after `n` chunks. -/
def accS (x : Ins F) : ℕ → FVec F S256x2112 .f32
  | 0 => shapeCast S256x2112 (broadcast S256x2112 (Scalar.ofBits .f32 0x00000000#32)) (by decide)
  | n + 1 => accStep x n (accS x n)

/-! ## The two normalised parts and the third -/

/-- The query columns of the product. -/
def qacc (x : Ins F) : FVec F S256x1536 .f32 :=
  fun i => accS x 7 ((Rect.unit (s := S256x2112) ![0, 0] S256x1536.size (inb2 (by decide))).emb i)

/-- A row's query normaliser. -/
def qrs (x : Ins F) : FVec F S256x1 .f32 :=
  rsqrt (addf (divf (shapeCast S256x1 (multiReduction .add [1] S256 (mulf (qacc x) (qacc x)) 0x00000000#32 (by decide) (.inl rfl) rfl) (by decide))
    (broadcast S256x1 (Scalar.ofBits .f32 0x44C00000#32))) (broadcast S256x1 (Scalar.ofBits .f32 0x358637BD#32)))

/-- The 128 normalised query columns from column `o` on. -/
def qblk (x : Ins F) (o : ℕ) : FVec F S256x128 .f32 :=
  if h : (0 + 256 ≤ 256 ∧ o + 128 ≤ 2112) ∧ (0 + 1 ≤ 1 ∧ o + 128 ≤ 1536) then
    mulf (mulf (fun i => accS x 7 ((Rect.unit (s := S256x2112) ![0, o] S256x128.size (inb2 h.1)).emb i)) (broadcastTo S256x128 (qrs x) (by decide)))
      (broadcastTo S256x128 (shapeCast (s := S1x128) S1x128 (fun i => x.x4 ((Rect.unit (s := S1x1536) ![0, o] S1x128.size (inb2 h.2)).emb i)) (by decide)) (by decide))
  else broadcast S256x128 (Scalar.ofBits .f32 0#32)

/-- The query codes. -/
def QC (x : Ins F) : Vec F S256x1536 .fp8e4m3 := fun y =>
  codes (qblk x (128 * ((y 1 : ℕ) / 128))) (Shape.pair (y 0) ⟨(y 1 : ℕ) % 128, Nat.mod_lt _ (by decide)⟩)

/-- The scales of the first `n` query blocks. -/
def qsV (x : Ins F) : ℕ → FVec F S256x12 .f32
  | 0 => broadcast S256x12 (Scalar.ofBits .f32 0x00000000#32)
  | n + 1 => select (cmpi .eq (iota .tc S256x12 32 [1] (by decide)) (broadcast S256x12 (BitVec.ofNat 32 n)))
      (broadcastTo S256x12 (shapeCast S256x1 (scale (qblk x (128 * n))) (by decide)) (by decide)) (qsV x n)

/-- The compressed columns of the product. -/
def kacc (x : Ins F) : FVec F S256x512 .f32 :=
  fun i => accS x 7 ((Rect.unit (s := S256x2112) ![0, 1536] S256x512.size (inb2 (by decide))).emb i)

/-- The compressed columns, normalised. -/
def kvV (x : Ins F) : FVec F S256x512 .bf16 :=
  truncf .bf16 (mulf (mulf (kacc x) (broadcastTo S256x512
    (rsqrt (addf (divf (shapeCast S256x1 (multiReduction .add [1] S256 (mulf (kacc x) (kacc x)) 0x00000000#32 (by decide) (.inl rfl) rfl) (by decide))
      (broadcast S256x1 (Scalar.ofBits .f32 0x44000000#32))) (broadcast S256x1 (Scalar.ofBits .f32 0x358637BD#32)))) (by decide)))
    (broadcastTo S256x512 (shapeCast S1x512 (fun i => x.x5 ((Rect.unit (s := S1x512) ![0, 0] S1x512.size (inb2 (by decide))).emb i)) (by decide)) (by decide))) (by decide)

/-- The positional columns of the product. -/
def peV (x : Ins F) : FVec F S256x64 .bf16 :=
  truncf .bf16 (fun i => accS x 7 ((Rect.unit (s := S256x2112) ![0, 2048] S256x64.size (inb2 (by decide))).emb i)) (by decide)

end Cert.Body

end
-- ==== Proof.Rules.lean ====
module

public import proofs.«01_k».proof.Proof.Body

/-!
  The state of the kernel's body while it runs, and one rule for each kind of its loads and stores.
-/

@[expose] public section

set_option maxRecDepth 16384

noncomputable section

namespace Cert.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Λ : Labels} {F : FTy → Type} [FloatOps F]

local notation "𝕄" => MT nD τ sig Unit (Elt F) ℕ (UR sig nD τ) ℕ

/-- The body's thirteen buffers. -/
structure Mems (sig : RefSig) where
  a1 : Memref sig .tc .smem S17x56 .f32
  h1 : a1.IsWhole
  a2 : Memref sig .tc .vmem S256x7168 .bf16
  h2 : a2.IsWhole
  a3 : Memref sig .tc .vmem S2112x7168 .fp8e4m3
  h3 : a3.IsWhole
  a4 : Memref sig .tc .vmem S1x1536 .f32
  h4 : a4.IsWhole
  a5 : Memref sig .tc .vmem S1x512 .f32
  h5 : a5.IsWhole
  a6 : Memref sig .tc .vmem S256x1536 .fp8e4m3
  h6 : a6.IsWhole
  a7 : Memref sig .tc .vmem S256x12 .f32
  h7 : a7.IsWhole
  a8 : Memref sig .tc .vmem S256x512 .bf16
  h8 : a8.IsWhole
  a9 : Memref sig .tc .vmem S256x64 .bf16
  h9 : a9.IsWhole
  a10 : Memref sig .tc .vmem S256x7168 .fp8e4m3
  h10 : a10.IsWhole
  a11 : Memref sig .tc .vmem S256x56 .f32
  h11 : a11.IsWhole
  a12 : Memref sig .tc .vmem S256x2112 .f32
  h12 : a12.IsWhole
  a13 : Memref sig .tc .vmem S2112x1024 .bf16
  h13 : a13.IsWhole

/-! ## What is known of a buffer that is filled block by block -/

/-- The column after the last block stored. -/
def after : Option ℕ → ℕ
  | none => 0
  | some o => o + 128

/-- The columns of the blocks stored so far, the last of them from column `o` on, hold what `G` says. -/
def Filled {α : Type} {d : Fin 2 → ℕ} (G : (⟨2, d⟩ : Shape).Idx → α) (o : Option ℕ) (X : (⟨2, d⟩ : Shape).Idx → α) : Prop :=
  128 ∣ after o ∧ ∀ y, (y 1 : ℕ) < after o → X y = G y

/-- The block stored after the block at `(a, b)`, in rows of eight. -/
def next : Option (ℕ × ℕ) → ℕ × ℕ
  | none => (0, 0)
  | some (a, b) => if b = 896 then (a + 128, 0) else (a, b + 128)

/-- The blocks of the scaled weights stored so far hold chunk `c`. -/
def WFilled (x : Ins F) (c : ℕ) (o : Option (ℕ × ℕ)) (X : Vec F S2112x1024 .bf16) : Prop :=
  (128 ∣ (next o).1 ∧ 128 ∣ (next o).2) ∧ ∀ y, (y 0 : ℕ) < (next o).1 ∨ (y 0 : ℕ) < (next o).1 + 128 ∧ (y 1 : ℕ) < (next o).2 → X y = Wf x c y

/-- The accumulator after so many chunks, nothing known before it is set to zero. -/
def AccIs (x : Ins F) : Option ℕ → FVec F S256x2112 .f32 → Prop
  | none, _ => True
  | some n, X => X = accS x n

/-- A result is there once it has been stored. -/
def Known {α : Type} (b : Bool) (G X : α) : Prop := b = true → X = G

/-- The body's buffers: the blocks read unchanged, the others as far as they are stored, beside `W`. -/
def St (d : Dev nD) (M : Mems sig) (x : Ins F) (W : sProp 𝕄) (xc : Option ℕ) (c : ℕ) (wo : Option (ℕ × ℕ)) (ac : Option ℕ) (qc : Option ℕ)
    (xs qs kv pe : Bool) : sProp 𝕄 :=
  iprop(own (d : Thread nD τ) M.a1 (fun X => X = x.x1) ∗ own (d : Thread nD τ) M.a2 (fun X => X = x.x2) ∗ own (d : Thread nD τ) M.a3 (fun X => X = x.x3)
    ∗ own (d : Thread nD τ) M.a4 (fun X => X = x.x4) ∗ own (d : Thread nD τ) M.a5 (fun X => X = x.x5)
    ∗ own (d : Thread nD τ) M.a6 (Filled (QC x) qc) ∗ own (d : Thread nD τ) M.a7 (Known qs (qsV x 12))
    ∗ own (d : Thread nD τ) M.a8 (Known kv (kvV x)) ∗ own (d : Thread nD τ) M.a9 (Known pe (peV x))
    ∗ own (d : Thread nD τ) M.a10 (Filled (XC x) xc) ∗ own (d : Thread nD τ) M.a11 (Known xs (xsV x 56))
    ∗ own (d : Thread nD τ) M.a12 (AccIs x ac) ∗ own (d : Thread nD τ) M.a13 (WFilled x c wo) ∗ W)

/-- An assertion is moved past the first of a product. -/
theorem pull {A B R S : sProp 𝕄} (h : S = iprop(B ∗ R)) : iprop(A ∗ S) = iprop(B ∗ (A ∗ R)) := by
  have e : ∀ P Q R : sProp 𝕄, iprop((P ∗ Q) ∗ R) = iprop(P ∗ Q ∗ R) := fun _ _ _ => equiv_iff.mp ⟨BI.sep_assoc, BI.sep_assoc'⟩
  have e' : iprop(A ∗ B) = iprop(B ∗ A) := equiv_iff.mp ⟨BI.sep_comm, BI.sep_comm⟩
  rw [h, ← e, ← e, e']

/-- What holds of a buffer may be weakened. -/
theorem own_mono {c : Thread nD τ} {sp : Space} {sh : Shape} {e : EltTy} {m : Memref sig c.2.kind sp sh e} {P P' : (sh.Idx → Elt F e) → Prop}
    (h : ∀ X, P X → P' X) {R : sProp 𝕄} : iprop(own c m P ∗ R) ⊢ iprop(own c m P' ∗ R) := by
  unfold own
  iintro ⟨⟨%X, %hX, H⟩, HR⟩
  isplitl [H]
  · iexists X; isplitr; · ipureintro; exact h X hX
    iexact H
  iexact HR

variable {defs : Defs nD τ sig (Elt F) Λ} (d : Dev nD) (E : Set ℕ) (M : Mems sig) (x : Ins F) (W : sProp (MT nD τ sig Unit (Elt F) ℕ (UR sig nD τ) ℕ))
variable {xc : Option ℕ} {c : ℕ} {wo : Option (ℕ × ℕ)} {ac : Option ℕ} {qc : Option ℕ} {xs qs kv pe : Bool}
variable {α : Type} {Q : α → sProp (MT nD τ sig Unit (Elt F) ℕ (UR sig nD τ) ℕ)}

/-! ## Loads -/

/-- A load from the weights' scales reads the block given. -/
theorem ld1 {r : Rect S17x56} {hl} {k : (r.toLoadRect.shape.Idx → Elt F .f32) → Prog (TpuEff nD τ sig (Elt F) Λ (d : Thread nD τ).2) α}
    (h : St d M x W xc c wo ac qc xs qs kv pe ⊢ wp frame (wpE defs Variants.none (d : Thread nD τ) none) E (k fun i => x.x1 (r.emb i)) Q) :
    St d M x W xc c wo ac qc xs qs kv pe ⊢ wp frame (wpE defs Variants.none (d : Thread nD τ) none) E (.op (.load M.a1 r.toLoadRect hl) k) Q :=
  load_own _ E rfl (fun X hX => by have e : X = _ := hX; rw [e]; exact h)

/-- A load from the activations reads the block given. -/
theorem ld2 {r : Rect S256x7168} {hl} {k : (r.toLoadRect.shape.Idx → Elt F .bf16) → Prog (TpuEff nD τ sig (Elt F) Λ (d : Thread nD τ).2) α}
    (h : St d M x W xc c wo ac qc xs qs kv pe ⊢ wp frame (wpE defs Variants.none (d : Thread nD τ) none) E (k fun i => x.x2 (r.emb i)) Q) :
    St d M x W xc c wo ac qc xs qs kv pe ⊢ wp frame (wpE defs Variants.none (d : Thread nD τ) none) E (.op (.load M.a2 r.toLoadRect hl) k) Q :=
  load_own _ E (pull rfl) (fun X hX => by have e : X = _ := hX; rw [e]; exact h)

/-- A load from the weights reads the block given. -/
theorem ld3 {r : Rect S2112x7168} {hl} {k : (r.toLoadRect.shape.Idx → Elt F .fp8e4m3) → Prog (TpuEff nD τ sig (Elt F) Λ (d : Thread nD τ).2) α}
    (h : St d M x W xc c wo ac qc xs qs kv pe ⊢ wp frame (wpE defs Variants.none (d : Thread nD τ) none) E (k fun i => x.x3 (r.emb i)) Q) :
    St d M x W xc c wo ac qc xs qs kv pe ⊢ wp frame (wpE defs Variants.none (d : Thread nD τ) none) E (.op (.load M.a3 r.toLoadRect hl) k) Q :=
  load_own _ E (pull (pull rfl)) (fun X hX => by have e : X = _ := hX; rw [e]; exact h)

/-- A load from the queries' weights reads the block given. -/
theorem ld4 {r : Rect S1x1536} {hl} {k : (r.toLoadRect.shape.Idx → Elt F .f32) → Prog (TpuEff nD τ sig (Elt F) Λ (d : Thread nD τ).2) α}
    (h : St d M x W xc c wo ac qc xs qs kv pe ⊢ wp frame (wpE defs Variants.none (d : Thread nD τ) none) E (k fun i => x.x4 (r.emb i)) Q) :
    St d M x W xc c wo ac qc xs qs kv pe ⊢ wp frame (wpE defs Variants.none (d : Thread nD τ) none) E (.op (.load M.a4 r.toLoadRect hl) k) Q :=
  load_own _ E (pull (pull (pull rfl))) (fun X hX => by have e : X = _ := hX; rw [e]; exact h)

/-- A load from the keys' and values' weights reads the block given. -/
theorem ld5 {r : Rect S1x512} {hl} {k : (r.toLoadRect.shape.Idx → Elt F .f32) → Prog (TpuEff nD τ sig (Elt F) Λ (d : Thread nD τ).2) α}
    (h : St d M x W xc c wo ac qc xs qs kv pe ⊢ wp frame (wpE defs Variants.none (d : Thread nD τ) none) E (k fun i => x.x5 (r.emb i)) Q) :
    St d M x W xc c wo ac qc xs qs kv pe ⊢ wp frame (wpE defs Variants.none (d : Thread nD τ) none) E (.op (.load M.a5 r.toLoadRect hl) k) Q :=
  load_own _ E (pull (pull (pull (pull rfl)))) (fun X hX => by have e : X = _ := hX; rw [e]; exact h)

/-- A load whose value is not used. -/
theorem ld6 {r : Rect S256x1536} {hl} {k : (r.toLoadRect.shape.Idx → Elt F .fp8e4m3) → Prog (TpuEff nD τ sig (Elt F) Λ (d : Thread nD τ).2) α} {k' : Prog (TpuEff nD τ sig (Elt F) Λ (d : Thread nD τ).2) α} (hk : k = fun _ => k')
    (h : St d M x W xc c wo ac qc xs qs kv pe ⊢ wp frame (wpE defs Variants.none (d : Thread nD τ) none) E k' Q) :
    St d M x W xc c wo ac qc xs qs kv pe ⊢ wp frame (wpE defs Variants.none (d : Thread nD τ) none) E (.op (.load M.a6 r.toLoadRect hl) k) Q :=
  load_own _ E (pull (pull (pull (pull (pull rfl))))) (fun _ _ => by rw [hk]; exact h)

/-- A load whose value is not used. -/
theorem ld7 {r : Rect S256x12} {hl} {k : (r.toLoadRect.shape.Idx → Elt F .f32) → Prog (TpuEff nD τ sig (Elt F) Λ (d : Thread nD τ).2) α} {k' : Prog (TpuEff nD τ sig (Elt F) Λ (d : Thread nD τ).2) α} (hk : k = fun _ => k')
    (h : St d M x W xc c wo ac qc xs qs kv pe ⊢ wp frame (wpE defs Variants.none (d : Thread nD τ) none) E k' Q) :
    St d M x W xc c wo ac qc xs qs kv pe ⊢ wp frame (wpE defs Variants.none (d : Thread nD τ) none) E (.op (.load M.a7 r.toLoadRect hl) k) Q :=
  load_own _ E (pull (pull (pull (pull (pull (pull rfl)))))) (fun _ _ => by rw [hk]; exact h)

/-- A load whose value is not used. -/
theorem ld8 {r : Rect S256x512} {hl} {k : (r.toLoadRect.shape.Idx → Elt F .bf16) → Prog (TpuEff nD τ sig (Elt F) Λ (d : Thread nD τ).2) α} {k' : Prog (TpuEff nD τ sig (Elt F) Λ (d : Thread nD τ).2) α} (hk : k = fun _ => k')
    (h : St d M x W xc c wo ac qc xs qs kv pe ⊢ wp frame (wpE defs Variants.none (d : Thread nD τ) none) E k' Q) :
    St d M x W xc c wo ac qc xs qs kv pe ⊢ wp frame (wpE defs Variants.none (d : Thread nD τ) none) E (.op (.load M.a8 r.toLoadRect hl) k) Q :=
  load_own _ E (pull (pull (pull (pull (pull (pull (pull rfl))))))) (fun _ _ => by rw [hk]; exact h)

/-- A load whose value is not used. -/
theorem ld9 {r : Rect S256x64} {hl} {k : (r.toLoadRect.shape.Idx → Elt F .bf16) → Prog (TpuEff nD τ sig (Elt F) Λ (d : Thread nD τ).2) α} {k' : Prog (TpuEff nD τ sig (Elt F) Λ (d : Thread nD τ).2) α} (hk : k = fun _ => k')
    (h : St d M x W xc c wo ac qc xs qs kv pe ⊢ wp frame (wpE defs Variants.none (d : Thread nD τ) none) E k' Q) :
    St d M x W xc c wo ac qc xs qs kv pe ⊢ wp frame (wpE defs Variants.none (d : Thread nD τ) none) E (.op (.load M.a9 r.toLoadRect hl) k) Q :=
  load_own _ E (pull (pull (pull (pull (pull (pull (pull (pull rfl)))))))) (fun _ _ => by rw [hk]; exact h)

/-- A load whose value is not used. -/
theorem ld10 {r : Rect S256x7168} {hl} {k : (r.toLoadRect.shape.Idx → Elt F .fp8e4m3) → Prog (TpuEff nD τ sig (Elt F) Λ (d : Thread nD τ).2) α} {k' : Prog (TpuEff nD τ sig (Elt F) Λ (d : Thread nD τ).2) α} (hk : k = fun _ => k')
    (h : St d M x W xc c wo ac qc xs qs kv pe ⊢ wp frame (wpE defs Variants.none (d : Thread nD τ) none) E k' Q) :
    St d M x W xc c wo ac qc xs qs kv pe ⊢ wp frame (wpE defs Variants.none (d : Thread nD τ) none) E (.op (.load M.a10 r.toLoadRect hl) k) Q :=
  load_own _ E (pull (pull (pull (pull (pull (pull (pull (pull (pull rfl))))))))) (fun _ _ => by rw [hk]; exact h)

/-- A load whose value is not used. -/
theorem ld11 {r : Rect S256x56} {hl} {k : (r.toLoadRect.shape.Idx → Elt F .f32) → Prog (TpuEff nD τ sig (Elt F) Λ (d : Thread nD τ).2) α} {k' : Prog (TpuEff nD τ sig (Elt F) Λ (d : Thread nD τ).2) α} (hk : k = fun _ => k')
    (h : St d M x W xc c wo ac qc xs qs kv pe ⊢ wp frame (wpE defs Variants.none (d : Thread nD τ) none) E k' Q) :
    St d M x W xc c wo ac qc xs qs kv pe ⊢ wp frame (wpE defs Variants.none (d : Thread nD τ) none) E (.op (.load M.a11 r.toLoadRect hl) k) Q :=
  load_own _ E (pull (pull (pull (pull (pull (pull (pull (pull (pull (pull rfl)))))))))) (fun _ _ => by rw [hk]; exact h)

/-- A load of the accumulator before it is set to zero. -/
theorem ld12' {r : Rect S256x2112} {hl} {k : (r.toLoadRect.shape.Idx → Elt F .f32) → Prog (TpuEff nD τ sig (Elt F) Λ (d : Thread nD τ).2) α} {k' : Prog (TpuEff nD τ sig (Elt F) Λ (d : Thread nD τ).2) α} (hk : k = fun _ => k')
    (h : St d M x W xc c wo none qc xs qs kv pe ⊢ wp frame (wpE defs Variants.none (d : Thread nD τ) none) E k' Q) :
    St d M x W xc c wo none qc xs qs kv pe ⊢ wp frame (wpE defs Variants.none (d : Thread nD τ) none) E (.op (.load M.a12 r.toLoadRect hl) k) Q :=
  load_own _ E (pull (pull (pull (pull (pull (pull (pull (pull (pull (pull (pull rfl))))))))))) (fun _ _ => by rw [hk]; exact h)

/-- A load of the accumulator. -/
theorem ld12 {n : ℕ} {r : Rect S256x2112} {hl} {k : (r.toLoadRect.shape.Idx → Elt F .f32) → Prog (TpuEff nD τ sig (Elt F) Λ (d : Thread nD τ).2) α}
    (h : St d M x W xc c wo (some n) qc xs qs kv pe ⊢ wp frame (wpE defs Variants.none (d : Thread nD τ) none) E (k fun i => accS x n (r.emb i)) Q) :
    St d M x W xc c wo (some n) qc xs qs kv pe ⊢ wp frame (wpE defs Variants.none (d : Thread nD τ) none) E (.op (.load M.a12 r.toLoadRect hl) k) Q :=
  load_own _ E (pull (pull (pull (pull (pull (pull (pull (pull (pull (pull (pull rfl))))))))))) (fun X hX => by have e : X = _ := hX; rw [e]; exact h)

/-- A load of a block of the scaled weights, whose value is not used. -/
theorem ld13' {r : Rect S2112x1024} {hl} {k : (r.toLoadRect.shape.Idx → Elt F .bf16) → Prog (TpuEff nD τ sig (Elt F) Λ (d : Thread nD τ).2) α} {k' : Prog (TpuEff nD τ sig (Elt F) Λ (d : Thread nD τ).2) α} (hk : k = fun _ => k')
    (h : St d M x W xc c wo ac qc xs qs kv pe ⊢ wp frame (wpE defs Variants.none (d : Thread nD τ) none) E k' Q) :
    St d M x W xc c wo ac qc xs qs kv pe ⊢ wp frame (wpE defs Variants.none (d : Thread nD τ) none) E (.op (.load M.a13 r.toLoadRect hl) k) Q :=
  load_own _ E (pull (pull (pull (pull (pull (pull (pull (pull (pull (pull (pull (pull rfl)))))))))))) (fun _ _ => by rw [hk]; exact h)

/-- A load of the scaled weights when all of chunk `c` is there: the next chunk begins. -/
theorem ld13 {r : Rect S2112x1024} {hl} {k : (r.toLoadRect.shape.Idx → Elt F .bf16) → Prog (TpuEff nD τ sig (Elt F) Λ (d : Thread nD τ).2) α}
    (h : St d M x W xc (c + 1) none ac qc xs qs kv pe ⊢ wp frame (wpE defs Variants.none (d : Thread nD τ) none) E (k fun i => Wf x c (r.emb i)) Q) :
    St d M x W xc c (some (2048, 896)) ac qc xs qs kv pe ⊢ wp frame (wpE defs Variants.none (d : Thread nD τ) none) E (.op (.load M.a13 r.toLoadRect hl) k) Q := by
  have e : ∀ (c : ℕ) (wo : Option (ℕ × ℕ)), St d M x W xc c wo ac qc xs qs kv pe = iprop(own (d : Thread nD τ) M.a13 (WFilled x c wo) ∗ _) := fun c wo =>
    pull (pull (pull (pull (pull (pull (pull (pull (pull (pull (pull (pull rfl)))))))))))
  refine load_own _ E (e c _) (fun X hX => ?_)
  have hXW : X = Wf x c := funext fun y => hX.2 y (Or.inl (by
    have := (y 0).isLt; simp [next] at this ⊢; omega))
  subst hXW
  refine BIBase.Entails.trans ?_ h
  rw [e, e]
  exact own_mono fun X _ => ⟨by simp [next], fun y hy => by simp [next] at hy⟩

/-! ## Stores -/

/-- A store of a whole buffer. -/
theorem whole_store {sh : Shape} {α : Type} {off : Fin sh.rank → ℕ} {inb} (h0 : off = fun _ => 0) {w : sh.Idx → α} {G Y : sh.Idx → α} (hw : w = G)
    (hY : ∀ i : (Rect.unit off sh.size inb).shape.Idx, Y ((Rect.unit off sh.size inb).emb i) = w i) : Y = G := by
  subst h0 hw
  funext y
  have := hY y
  rwa [show (Rect.unit (fun _ => 0) sh.size inb).emb y = y from funext fun a => Fin.ext (by simp)] at this

/-- A block stored next to those already there. -/
theorem filled_store {α : Type} {R N : ℕ} {G X Y : (⟨2, ![R, N]⟩ : Shape).Idx → α} {o : Option ℕ} {o' : ℕ} {inb} {g : ℕ → (⟨2, ![R, 128]⟩ : Shape).Idx → α}
    (hG : ∀ y, G y = g (128 * ((y 1 : ℕ) / 128)) (Shape.pair (y 0) ⟨(y 1 : ℕ) % 128, Nat.mod_lt _ (by decide)⟩)) (ho : after o = o')
    {w : (⟨2, ![R, 128]⟩ : Shape).Idx → α} (hw : w = g o') (hX : Filled G o X)
    (hY : ∀ i : (⟨2, ![R, 128]⟩ : Shape).Idx, Y ((Rect.unit (s := ⟨2, ![R, N]⟩) ![0, o'] (Shape.size ⟨2, ![R, 128]⟩) inb).emb i) = w i)
    (hN : ∀ y, y ∉ (Rect.unit (s := ⟨2, ![R, N]⟩) ![0, o'] (Shape.size ⟨2, ![R, 128]⟩) inb).set → Y y = X y) :
    Filled G (some o') Y := by
  subst hw ho
  obtain ⟨hd, hX⟩ := hX
  refine ⟨by simp only [after] at hd ⊢; omega, fun y hy => ?_⟩
  have hy : (y 1 : ℕ) < after o + 128 := hy
  by_cases h : (y 1 : ℕ) < after o
  · rw [hN y, hX y h]
    rw [Rect.mem_set_unit]
    intro hh
    have := (hh 1).1
    simp at this; omega
  · have e1 : 128 * ((y 1 : ℕ) / 128) = after o := by omega
    have e2 : (y 1 : ℕ) % 128 = (y 1 : ℕ) - after o := by omega
    rw [hG y, e1, ← hY]
    congr 1
    funext a
    apply Fin.ext
    rcases a with ⟨_ | _ | n, ha⟩
    · simp [Shape.pair]
    · simp [Shape.pair]; show (y 1 : ℕ) = _; omega
    · exact absurd ha (by simp)

/-- A block of the scaled weights stored after those already there. -/
theorem wfilled_store {x : Ins F} {c : ℕ} {n : ℕ} {X Y : Vec F S2112x1024 .bf16} {o : Option (ℕ × ℕ)} {a b : ℕ} {inb}
    (ho : next o = (a, b)) (hb : b ≤ 896) (hn : n = 128 ∨ a = 2048 ∧ n = 64)
    {w : (⟨2, ![n, 128]⟩ : Shape).Idx → Elt F .bf16} (hw : ∀ (y : S2112x1024.Idx) (i : (⟨2, ![n, 128]⟩ : Shape).Idx), 128 ∣ a → 128 ∣ b →
      (y 0 : ℕ) = a + i 0 → (y 1 : ℕ) = b + i 1 → w i = Wf x c y)
    (hX : WFilled x c o X)
    (hY : ∀ i : (⟨2, ![n, 128]⟩ : Shape).Idx, Y ((Rect.unit (s := S2112x1024) ![a, b] (Shape.size ⟨2, ![n, 128]⟩) inb).emb i) = w i)
    (hN : ∀ y, y ∉ (Rect.unit (s := S2112x1024) ![a, b] (Shape.size ⟨2, ![n, 128]⟩) inb).set → Y y = X y) :
    WFilled x c (some (a, b)) Y := by
  obtain ⟨⟨ha', hb'⟩, hX⟩ := hX
  rw [ho] at ha' hb' hX
  simp only at ha' hb' hX
  have key : ∀ y : S2112x1024.Idx, (y 0 : ℕ) < a ∨ (y 0 : ℕ) < a + 128 ∧ (y 1 : ℕ) < b + 128 → Y y = Wf x c y := by
    intro y hy
    have hy0 : (y 0 : ℕ) < 2112 := (y 0).isLt
    by_cases h : (y 0 : ℕ) < a ∨ (y 1 : ℕ) < b
    · rw [hN y, hX y (by omega)]
      rw [Rect.mem_set_unit]
      intro hh
      have h0 := (hh 0).1
      have h1 := (hh 1).1
      simp at h0 h1; omega
    · have h1 : (y 0 : ℕ) - a < n := by omega
      have h2 : (y 1 : ℕ) - b < 128 := by omega
      let i : (⟨2, ![n, 128]⟩ : Shape).Idx := Shape.pair (d := ![n, 128]) ⟨(y 0 : ℕ) - a, h1⟩ ⟨(y 1 : ℕ) - b, h2⟩
      rw [← hw y i ha' hb' (by show (y 0 : ℕ) = a + ((y 0 : ℕ) - a); omega) (by show (y 1 : ℕ) = b + ((y 1 : ℕ) - b); omega), ← hY i]
      congr 1
      funext k
      apply Fin.ext
      rcases k with ⟨_ | _ | m, hk⟩
      · show (y 0 : ℕ) = a + 1 * ((y 0 : ℕ) - a); omega
      · show (y 1 : ℕ) = b + 1 * ((y 1 : ℕ) - b); omega
      · exact absurd hk (by simp)
  unfold WFilled next
  dsimp only
  have hb2 := hb
  split
  · refine ⟨⟨by simp only; omega, by simp⟩, fun y hy => key y ?_⟩
    have : (y 1 : ℕ) < 1024 := (y 1).isLt
    simp only at hy
    omega
  · refine ⟨⟨by simp only; omega, by simp only; omega⟩, fun y hy => key y ?_⟩
    simp only at hy
    omega

/-- A store of the next block of the queries' codes. -/
theorem st6 {o' : ℕ} {inb} {w : FVec F S256x128 .fp8e4m3} {hx hm} {k : PUnit → Prog (TpuEff nD τ sig (Elt F) Λ (d : Thread nD τ).2) α} (ho : after qc = o') (hw : w = codes (qblk x o'))
    (h : St d M x W xc c wo ac (some o') xs qs kv pe ⊢ wp frame (wpE defs Variants.none (d : Thread nD τ) none) E (k ⟨⟩) Q) :
    St d M x W xc c wo ac qc xs qs kv pe ⊢ wp frame (wpE defs Variants.none (d : Thread nD τ) none) E (.op (.store M.a6 (Rect.unit (s := S256x1536) ![0, o'] S256x128.size inb) w Finset.univ hx hm) k) Q :=
  store_own _ E (pull (pull (pull (pull (pull rfl))))) (pull (pull (pull (pull (pull rfl)))))
    (fun _ _ hX hY hN => filled_store (g := fun o => codes (qblk x o)) (fun _ => rfl) ho hw hX hY hN) h

/-- The store of the queries' scales. -/
theorem st7 {o : Fin 2 → ℕ} {inb} {w : FVec F S256x12 .f32} {hx hm} {k : PUnit → Prog (TpuEff nD τ sig (Elt F) Λ (d : Thread nD τ).2) α} (ho : o = fun _ => 0) (hw : w = qsV x 12)
    (h : St d M x W xc c wo ac qc xs true kv pe ⊢ wp frame (wpE defs Variants.none (d : Thread nD τ) none) E (k ⟨⟩) Q) :
    St d M x W xc c wo ac qc xs qs kv pe ⊢ wp frame (wpE defs Variants.none (d : Thread nD τ) none) E (.op (.store M.a7 (Rect.unit (s := S256x12) o S256x12.size inb) w Finset.univ hx hm) k) Q :=
  store_own _ E (pull (pull (pull (pull (pull (pull rfl)))))) (pull (pull (pull (pull (pull (pull rfl))))))
    (fun _ _ _ hY _ _ => whole_store ho hw hY) h

/-- The store of the normalised keys and values. -/
theorem st8 {o : Fin 2 → ℕ} {inb} {w : FVec F S256x512 .bf16} {hx hm} {k : PUnit → Prog (TpuEff nD τ sig (Elt F) Λ (d : Thread nD τ).2) α} (ho : o = fun _ => 0) (hw : w = kvV x)
    (h : St d M x W xc c wo ac qc xs qs true pe ⊢ wp frame (wpE defs Variants.none (d : Thread nD τ) none) E (k ⟨⟩) Q) :
    St d M x W xc c wo ac qc xs qs kv pe ⊢ wp frame (wpE defs Variants.none (d : Thread nD τ) none) E (.op (.store M.a8 (Rect.unit (s := S256x512) o S256x512.size inb) w Finset.univ hx hm) k) Q :=
  store_own _ E (pull (pull (pull (pull (pull (pull (pull rfl))))))) (pull (pull (pull (pull (pull (pull (pull rfl)))))))
    (fun _ _ _ hY _ _ => whole_store ho hw hY) h

/-- The store of the last 64 columns. -/
theorem st9 {o : Fin 2 → ℕ} {inb} {w : FVec F S256x64 .bf16} {hx hm} {k : PUnit → Prog (TpuEff nD τ sig (Elt F) Λ (d : Thread nD τ).2) α} (ho : o = fun _ => 0) (hw : w = peV x)
    (h : St d M x W xc c wo ac qc xs qs kv true ⊢ wp frame (wpE defs Variants.none (d : Thread nD τ) none) E (k ⟨⟩) Q) :
    St d M x W xc c wo ac qc xs qs kv pe ⊢ wp frame (wpE defs Variants.none (d : Thread nD τ) none) E (.op (.store M.a9 (Rect.unit (s := S256x64) o S256x64.size inb) w Finset.univ hx hm) k) Q :=
  store_own _ E (pull (pull (pull (pull (pull (pull (pull (pull rfl)))))))) (pull (pull (pull (pull (pull (pull (pull (pull rfl))))))))
    (fun _ _ _ hY _ _ => whole_store ho hw hY) h

/-- A store of the next block of the activations' codes. -/
theorem st10 {o' : ℕ} {inb} {w : FVec F S256x128 .fp8e4m3} {hx hm} {k : PUnit → Prog (TpuEff nD τ sig (Elt F) Λ (d : Thread nD τ).2) α} (ho : after xc = o') (hw : w = codes (xblk x o'))
    (h : St d M x W (some o') c wo ac qc xs qs kv pe ⊢ wp frame (wpE defs Variants.none (d : Thread nD τ) none) E (k ⟨⟩) Q) :
    St d M x W xc c wo ac qc xs qs kv pe ⊢ wp frame (wpE defs Variants.none (d : Thread nD τ) none) E (.op (.store M.a10 (Rect.unit (s := S256x7168) ![0, o'] S256x128.size inb) w Finset.univ hx hm) k) Q :=
  store_own _ E (pull (pull (pull (pull (pull (pull (pull (pull (pull rfl))))))))) (pull (pull (pull (pull (pull (pull (pull (pull (pull rfl)))))))))
    (fun _ _ hX hY hN => filled_store (g := fun o => codes (xblk x o)) (fun _ => rfl) ho hw hX hY hN) h

/-- The store of the activations' scales. -/
theorem st11 {o : Fin 2 → ℕ} {inb} {w : FVec F S256x56 .f32} {hx hm} {k : PUnit → Prog (TpuEff nD τ sig (Elt F) Λ (d : Thread nD τ).2) α} (ho : o = fun _ => 0) (hw : w = xsV x 56)
    (h : St d M x W xc c wo ac qc true qs kv pe ⊢ wp frame (wpE defs Variants.none (d : Thread nD τ) none) E (k ⟨⟩) Q) :
    St d M x W xc c wo ac qc xs qs kv pe ⊢ wp frame (wpE defs Variants.none (d : Thread nD τ) none) E (.op (.store M.a11 (Rect.unit (s := S256x56) o S256x56.size inb) w Finset.univ hx hm) k) Q :=
  store_own _ E (pull (pull (pull (pull (pull (pull (pull (pull (pull (pull rfl)))))))))) (pull (pull (pull (pull (pull (pull (pull (pull (pull (pull rfl))))))))))
    (fun _ _ _ hY _ _ => whole_store ho hw hY) h

/-- The accumulator is set to zero. -/
theorem st12' {o : Fin 2 → ℕ} {inb} {w : FVec F S256x2112 .f32} {hx hm} {k : PUnit → Prog (TpuEff nD τ sig (Elt F) Λ (d : Thread nD τ).2) α} (ho : o = fun _ => 0) (hw : w = accS x 0)
    (h : St d M x W xc c wo (some 0) qc xs qs kv pe ⊢ wp frame (wpE defs Variants.none (d : Thread nD τ) none) E (k ⟨⟩) Q) :
    St d M x W xc c wo none qc xs qs kv pe ⊢ wp frame (wpE defs Variants.none (d : Thread nD τ) none) E (.op (.store M.a12 (Rect.unit (s := S256x2112) o S256x2112.size inb) w Finset.univ hx hm) k) Q :=
  store_own _ E (pull (pull (pull (pull (pull (pull (pull (pull (pull (pull (pull rfl))))))))))) (pull (pull (pull (pull (pull (pull (pull (pull (pull (pull (pull rfl)))))))))))
    (fun _ _ _ hY _ => (whole_store ho hw hY : _ = _)) h

/-- One chunk's product is added. -/
theorem st12 {n : ℕ} {o : Fin 2 → ℕ} {inb} {w : FVec F S256x2112 .f32} {hx hm} {k : PUnit → Prog (TpuEff nD τ sig (Elt F) Λ (d : Thread nD τ).2) α} (ho : o = fun _ => 0) (hw : w = accStep x n (accS x n))
    (h : St d M x W xc c wo (some (n + 1)) qc xs qs kv pe ⊢ wp frame (wpE defs Variants.none (d : Thread nD τ) none) E (k ⟨⟩) Q) :
    St d M x W xc c wo (some n) qc xs qs kv pe ⊢ wp frame (wpE defs Variants.none (d : Thread nD τ) none) E (.op (.store M.a12 (Rect.unit (s := S256x2112) o S256x2112.size inb) w Finset.univ hx hm) k) Q :=
  store_own _ E (pull (pull (pull (pull (pull (pull (pull (pull (pull (pull (pull rfl))))))))))) (pull (pull (pull (pull (pull (pull (pull (pull (pull (pull (pull rfl)))))))))))
    (fun _ _ _ hY _ => (whole_store (G := accS x (n + 1)) ho hw hY : _ = _)) h

/-- A block of 128 rows of the scaled weights. -/
theorem st13 {a b : ℕ} {inb} {w : FVec F S128x128 .bf16} {hx hm} {k : PUnit → Prog (TpuEff nD τ sig (Elt F) Λ (d : Thread nD τ).2) α} (ho : next wo = (a, b)) (hb : a + 128 ≤ 2048 ∧ b ≤ 896)
    (hw : w = wcell x c a b) (h : St d M x W xc c (some (a, b)) ac qc xs qs kv pe ⊢ wp frame (wpE defs Variants.none (d : Thread nD τ) none) E (k ⟨⟩) Q) :
    St d M x W xc c wo ac qc xs qs kv pe ⊢ wp frame (wpE defs Variants.none (d : Thread nD τ) none) E (.op (.store M.a13 (Rect.unit (s := S2112x1024) ![a, b] S128x128.size inb) w Finset.univ hx hm) k) Q :=
  store_own _ E (pull (pull (pull (pull (pull (pull (pull (pull (pull (pull (pull (pull rfl))))))))))))
    (pull (pull (pull (pull (pull (pull (pull (pull (pull (pull (pull (pull rfl))))))))))))
    (fun _ _ hX hY hN => wfilled_store (n := 128) ho hb.2 (.inl rfl) (fun y i ha' hb' h0 h1 => by
      have hi0 : (i 0 : ℕ) < 128 := (i 0).isLt
      have hi1 : (i 1 : ℕ) < 128 := (i 1).isLt
      unfold Wf
      rw [dif_pos (by omega), hw]
      have e0 : 128 * ((y 0 : ℕ) / 128) = a := by omega
      have e1 : 128 * ((y 1 : ℕ) / 128) = b := by omega
      rw [e0, e1]
      congr 1
      funext k
      apply Fin.ext
      rcases k with ⟨_ | _ | m, hk⟩
      · show (i 0 : ℕ) = (y 0 : ℕ) % 128; omega
      · show (i 1 : ℕ) = (y 1 : ℕ) % 128; omega
      · exact absurd hk (by simp)) hX hY hN) h

/-- A block of the last 64 rows of the scaled weights. -/
theorem st13' {b : ℕ} {inb} {w : FVec F S64x128 .bf16} {hx hm} {k : PUnit → Prog (TpuEff nD τ sig (Elt F) Λ (d : Thread nD τ).2) α} (ho : next wo = (2048, b)) (hb : b ≤ 896)
    (hw : w = wcell' x c 2048 b) (h : St d M x W xc c (some (2048, b)) ac qc xs qs kv pe ⊢ wp frame (wpE defs Variants.none (d : Thread nD τ) none) E (k ⟨⟩) Q) :
    St d M x W xc c wo ac qc xs qs kv pe ⊢ wp frame (wpE defs Variants.none (d : Thread nD τ) none) E (.op (.store M.a13 (Rect.unit (s := S2112x1024) ![2048, b] S64x128.size inb) w Finset.univ hx hm) k) Q :=
  store_own _ E (pull (pull (pull (pull (pull (pull (pull (pull (pull (pull (pull (pull rfl))))))))))))
    (pull (pull (pull (pull (pull (pull (pull (pull (pull (pull (pull (pull rfl))))))))))))
    (fun _ _ hX hY hN => wfilled_store (n := 64) ho hb (.inr ⟨rfl, rfl⟩) (fun y i ha' hb' h0 h1 => by
      have hi0 : (i 0 : ℕ) < 64 := (i 0).isLt
      have hi1 : (i 1 : ℕ) < 128 := (i 1).isLt
      unfold Wf
      rw [dif_neg (by omega), hw]
      have e1 : 128 * ((y 1 : ℕ) / 128) = b := by omega
      rw [e1]
      congr 1
      funext k
      apply Fin.ext
      rcases k with ⟨_ | _ | m, hk⟩
      · show (i 0 : ℕ) = (y 0 : ℕ) - 2048; omega
      · show (i 1 : ℕ) = (y 1 : ℕ) % 128; omega
      · exact absurd hk (by simp)) hX hY hN) h

end Cert.Body

end
-- ==== Proof.KernelBody.lean ====
module

public import proofs.«01_k».proof.Proof.Rules
public import proofs.«01_k».proof.Kernel

/-!
  The body of `Kernel` run from its first load to its last store, one rule for each.
-/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Body

variable {F : FTy → Type} [FloatOps F] [Cert.Kernel.Facts]

set_option maxHeartbeats 4000000 in
/-- From buffers of which only the blocks read are known, the body ends with every result in its buffer. -/
theorem body (d : Dev nD) (E : Set ℕ) (M : Mems sig) (x : Ins F) (W : sProp (MT nD τ sig Unit (Elt F) ℕ (UR sig nD τ) ℕ)) (i : grid0.Coords)
    (Q : PUnit → sProp (MT nD τ sig Unit (Elt F) ℕ (UR sig nD τ) ℕ))
    (hQ : St d M x W (some 7040) 7 none (some 7) (some 1408) true true true true ⊢ Q ⟨⟩) :
    St d M x W none 0 none none none false false false false ⊢ wp frame (wpE (defs₀ (F := F)) Variants.none (d : Thread nD τ) none) E
      (cc0__kernel i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13) Q := by
  refine ld12' d E M x W rfl ?_
  refine st12' d E M x W (by decide) rfl ?_
  iterate 7
    iterate 8
      refine ld2 d E M x W ?_
      refine ld10 d E M x W rfl ?_
      refine st10 d E M x W rfl rfl ?_
    iterate 128
      refine ld1 d E M x W ?_
      refine ld3 d E M x W ?_
      refine ld13' d E M x W rfl ?_
      refine st13 d E M x W rfl (by decide) rfl ?_
    iterate 8
      refine ld1 d E M x W ?_
      refine ld3 d E M x W ?_
      refine ld13' d E M x W rfl ?_
      refine st13' d E M x W rfl (by decide) rfl ?_
    refine ld12 d E M x W ?_
    refine ld13 d E M x W ?_
    refine ld12 d E M x W ?_
    refine st12 d E M x W (by decide) rfl ?_
  refine ld11 d E M x W rfl ?_
  refine st11 d E M x W (by decide) rfl ?_
  refine ld12 d E M x W ?_
  iterate 12
    refine ld12 d E M x W ?_
    refine ld4 d E M x W ?_
    refine ld6 d E M x W rfl ?_
    refine st6 d E M x W rfl rfl ?_
  refine ld7 d E M x W rfl ?_
  refine st7 d E M x W (by decide) rfl ?_
  refine ld12 d E M x W ?_
  refine ld5 d E M x W ?_
  refine ld8 d E M x W rfl ?_
  refine st8 d E M x W (by decide) rfl ?_
  refine ld12 d E M x W ?_
  refine ld9 d E M x W rfl ?_
  refine st9 d E M x W (by decide) rfl ?_
  exact hQ.trans fupd_intro

end Cert.Kernel.Run

end
-- ==== Proof.KernelRun.lean ====
module

public import proofs.«01_k».proof.Proof.KernelBody
public import proofs.«01_k».proof.Proof.Gen.Kernel.Frame
public import Idealize.ShloMosaic.Lib.Claim

/-!
  The run of `Kernel`: what each window's buffer holds after the body at a grid point, and from it the state every
  execution ends in.
-/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Body Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the body reads at point `t`. -/
def ins (c : Dev nD) (t : Fin cfg0.N) : Ins F where
  x1 := iblk m c 0 t
  x2 := iblk m c 1 t
  x3 := iblk m c 2 t
  x4 := iblk m c 3 t
  x5 := iblk m c 4 t

/-- The buffers the body is called with at point `t`. -/
def mems (t : Fin cfg0.N) : Mems sig where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := Memref.whole cc0_scratch0
  h12 := Memref.isWhole_whole _
  a13 := Memref.whole cc0_scratch1
  h13 := Memref.isWhole_whole _

/-- The proof data: each read block stays, each result's buffer ends at what the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => QC (ins m c t)
    | ⟨6, _⟩ => qsV (ins m c t) 12
    | ⟨7, _⟩ => kvV (ins m c t)
    | ⟨8, _⟩ => peV (ins m c t)
    | ⟨9, _⟩ => XC (ins m c t)
    | ⟨10, _⟩ => xsV (ins m c t) 56
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- The body leaves input window 0 as it was. -/
theorem after0_0 (c : Dev nD) (t : Fin cfg0.N) : (dats m 0 c).after 0 t = iblk m c 0 t := by dsimp only [dats]
/-- The body leaves input window 1 as it was. -/
theorem after0_1 (c : Dev nD) (t : Fin cfg0.N) : (dats m 0 c).after 1 t = iblk m c 1 t := by dsimp only [dats]
/-- The body leaves input window 2 as it was. -/
theorem after0_2 (c : Dev nD) (t : Fin cfg0.N) : (dats m 0 c).after 2 t = iblk m c 2 t := by dsimp only [dats]
/-- The body leaves input window 3 as it was. -/
theorem after0_3 (c : Dev nD) (t : Fin cfg0.N) : (dats m 0 c).after 3 t = iblk m c 3 t := by dsimp only [dats]
/-- The body leaves input window 4 as it was. -/
theorem after0_4 (c : Dev nD) (t : Fin cfg0.N) : (dats m 0 c).after 4 t = iblk m c 4 t := by dsimp only [dats]
/-- What the body leaves of the queries' codes. -/
theorem after0_5 (c : Dev nD) (t : Fin cfg0.N) : (dats m 0 c).after 5 t = QC (ins m c t) := by dsimp only [dats]
/-- What it leaves of the queries' scales. -/
theorem after0_6 (c : Dev nD) (t : Fin cfg0.N) : (dats m 0 c).after 6 t = qsV (ins m c t) 12 := by dsimp only [dats]
/-- What it leaves of the normalised keys and values. -/
theorem after0_7 (c : Dev nD) (t : Fin cfg0.N) : (dats m 0 c).after 7 t = kvV (ins m c t) := by dsimp only [dats]
/-- What it leaves of the last 64 columns. -/
theorem after0_8 (c : Dev nD) (t : Fin cfg0.N) : (dats m 0 c).after 8 t = peV (ins m c t) := by dsimp only [dats]
/-- What it leaves of the activations' codes. -/
theorem after0_9 (c : Dev nD) (t : Fin cfg0.N) : (dats m 0 c).after 9 t = XC (ins m c t) := by dsimp only [dats]
/-- What it leaves of the activations' scales. -/
theorem after0_10 (c : Dev nD) (t : Fin cfg0.N) : (dats m 0 c).after 10 t = xsV (ins m c t) 56 := by dsimp only [dats]

/-- The body finds input window 0 holding its block. -/
theorem before0_0 (c : Dev nD) (t : Fin cfg0.N) (d) : (dats m 0 c).before 0 t d = iblk m c 0 t :=
  before0_0_of m (dats m 0 c) (A_eq m c 0) (after0_0 m c) t d
/-- The body finds input window 1 holding its block. -/
theorem before0_1 (c : Dev nD) (t : Fin cfg0.N) (d) : (dats m 0 c).before 1 t d = iblk m c 1 t :=
  before0_1_of m (dats m 0 c) (A_eq m c 1) (after0_1 m c) t d
/-- The body finds input window 2 holding its block. -/
theorem before0_2 (c : Dev nD) (t : Fin cfg0.N) (d) : (dats m 0 c).before 2 t d = iblk m c 2 t :=
  before0_2_of m (dats m 0 c) (A_eq m c 2) (after0_2 m c) t d
/-- The body finds input window 3 holding its block. -/
theorem before0_3 (c : Dev nD) (t : Fin cfg0.N) (d) : (dats m 0 c).before 3 t d = iblk m c 3 t :=
  before0_3_of m (dats m 0 c) (A_eq m c 3) (after0_3 m c) t d
/-- The body finds input window 4 holding its block. -/
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- What the body neither reads nor writes. -/
def rest (c : Dev nD) (t : Fin cfg0.N) : sProp 𝕄 :=
  iprop((∃ r, prngReg c r) ∗ (dats m 0 c).owesAt () t.castSucc)

/-- Before the body nothing is known of what it fills. -/
theorem pre_St (c : Dev nD) (t : Fin cfg0.N) :
    bodyPre m c t ⊢ St c (mems t) (ins m c t) (rest m c t) none 0 none none none false false false false := by
  unfold bodyPre St rest Cert.Body.own
  simp only [before0_0, before0_1, before0_2, before0_3, before0_4]
  rw [show (dats m 0 c).Φ t.castSucc = Pipeline.ΦA spec0 c from rfl]
  unfold Pipeline.ΦA
  rw [scopedRest0_eq]
  iintro ⟨⟨⟨⟨%f0, Hs0⟩, ⟨%f1, Hs1⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; exact ⟨⟨0, rfl⟩, fun y hy => absurd hy (Nat.not_lt_zero _)⟩
  isplitl [H6]
  · iexists _; isplitr; swap; · iexact H6
    ipureintro; exact fun h => absurd h (by decide)
  isplitl [H7]
  · iexists _; isplitr; swap; · iexact H7
    ipureintro; exact fun h => absurd h (by decide)
  isplitl [H8]
  · iexists _; isplitr; swap; · iexact H8
    ipureintro; exact fun h => absurd h (by decide)
  isplitl [H9]
  · iexists _; isplitr; swap; · iexact H9
    ipureintro; exact ⟨⟨0, rfl⟩, fun y hy => absurd hy (Nat.not_lt_zero _)⟩
  isplitl [H10]
  · iexists _; isplitr; swap; · iexact H10
    ipureintro; exact fun h => absurd h (by decide)
  isplitl [Hs0]
  · iexists f0; isplitr; · ipureintro; trivial
    rw [show (mems t).a12 = Memref.whole cc0_scratch0 from rfl, owns_whole]; iexact Hs0
  isplitl [Hs1]
  · iexists f1; isplitr
    · ipureintro
      exact ⟨⟨⟨0, rfl⟩, ⟨0, rfl⟩⟩, fun y hy => hy.elim (fun h => absurd h (Nat.not_lt_zero _)) (fun h => absurd h.2 (Nat.not_lt_zero _))⟩
    rw [show (mems t).a13 = Memref.whole cc0_scratch1 from rfl, owns_whole]; iexact Hs1
  isplitl [Hp]; · iexact Hp
  iexact Ho

/-- After the body every result is there. -/
theorem St_post (c : Dev nD) (t : Fin cfg0.N) :
    St c (mems t) (ins m c t) (rest m c t) (some 7040) 7 none (some 7) (some 1408) true true true true ⊢ bodyPost m c t := by
  unfold bodyPost St rest Cert.Body.own
  rw [show (dats m 0 c).Φ t.succ = Pipeline.ΦA spec0 c from rfl,
    show (dats m 0 c).owesAt () t.succ = (dats m 0 c).owesAt () t.castSucc from rfl,
    after0_0, after0_1, after0_2, after0_3, after0_4, after0_5, after0_6, after0_7, after0_8, after0_9, after0_10]
  unfold Pipeline.ΦA
  rw [scopedRest0_eq]
  rw [show (mems t).a12 = Memref.whole cc0_scratch0 from rfl, show (mems t).a13 = Memref.whole cc0_scratch1 from rfl]
  simp only [owns_whole]
  iintro ⟨⟨%X0, %h0, H0⟩, ⟨%X1, %h1, H1⟩, ⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, -, Hs0⟩, ⟨%X12, -, Hs1⟩, Hp, Ho⟩
  have e5 : X5 = QC (ins m c t) := funext fun y => h5.2 y (y 1).isLt
  have e6 : X6 = _ := h6 rfl
  have e7 : X7 = _ := h7 rfl
  have e8 : X8 = _ := h8 rfl
  have e9 : X9 = XC (ins m c t) := funext fun y => h9.2 y (y 1).isLt
  have e10 : X10 = _ := h10 rfl
  subst h0 h1 h2 h3 h4 e5 e6 e7 e8 e9 e10
  isplitl [Hs0 Hs1 Hp]
  · isplitl [Hs0 Hs1]
    · isplitl [Hs0]
      · iexists X11; iexact Hs0
      iexists X12; iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  have h := body c Set.univ (mems t) (ins m c t) (rest m c t) (grid0.coords t) (fun _ => bodyPost m c t) (St_post m c t)
  have e : bodyAt0 (F := F) t = cc0__kernel (grid0.coords t) (mems t).a1 (mems t).h1 (mems t).a2 (mems t).h2 (mems t).a3 (mems t).h3 (mems t).a4 (mems t).h4 (mems t).a5 (mems t).h5
      (mems t).a6 (mems t).h6 (mems t).a7 (mems t).h7 (mems t).a8 (mems t).h8 (mems t).a9 (mems t).h9 (mems t).a10 (mems t).h10 (mems t).a11 (mems t).h11 (mems t).a12 (mems t).h12 (mems t).a13 (mems t).h13 := by
    dsimp only [mems]
  rw [e]
  exact (pre_St m c t).trans h

/-- The pipeline's body at a point is the printed one there. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends, with the windows' arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.KernelIdealBody.lean ====
module

public import proofs.«01_k».proof.Proof.Rules
public import proofs.«01_k».proof.KernelIdeal

/-!
  The body of `KernelIdeal` run from its first load to its last store, one rule for each.
-/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Body

variable {F : FTy → Type} [FloatOps F] [Cert.KernelIdeal.Facts]

set_option maxHeartbeats 4000000 in
/-- From buffers of which only the blocks read are known, the body ends with every result in its buffer. -/
theorem body (d : Dev nD) (E : Set ℕ) (M : Mems sig) (x : Ins F) (W : sProp (MT nD τ sig Unit (Elt F) ℕ (UR sig nD τ) ℕ)) (i : grid0.Coords)
    (Q : PUnit → sProp (MT nD τ sig Unit (Elt F) ℕ (UR sig nD τ) ℕ))
    (hQ : St d M x W (some 7040) 7 none (some 7) (some 1408) true true true true ⊢ Q ⟨⟩) :
    St d M x W none 0 none none none false false false false ⊢ wp frame (wpE (defs₀ (F := F)) Variants.none (d : Thread nD τ) none) E
      (cc0__kernel i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13) Q := by
  refine ld12' d E M x W rfl ?_
  refine st12' d E M x W (by decide) rfl ?_
  iterate 7
    iterate 8
      refine ld2 d E M x W ?_
      refine ld10 d E M x W rfl ?_
      refine st10 d E M x W rfl rfl ?_
    iterate 128
      refine ld1 d E M x W ?_
      refine ld3 d E M x W ?_
      refine ld13' d E M x W rfl ?_
      refine st13 d E M x W rfl (by decide) rfl ?_
    iterate 8
      refine ld1 d E M x W ?_
      refine ld3 d E M x W ?_
      refine ld13' d E M x W rfl ?_
      refine st13' d E M x W rfl (by decide) rfl ?_
    refine ld12 d E M x W ?_
    refine ld13 d E M x W ?_
    refine ld12 d E M x W ?_
    refine st12 d E M x W (by decide) rfl ?_
  refine ld11 d E M x W rfl ?_
  refine st11 d E M x W (by decide) rfl ?_
  refine ld12 d E M x W ?_
  iterate 12
    refine ld12 d E M x W ?_
    refine ld4 d E M x W ?_
    refine ld6 d E M x W rfl ?_
    refine st6 d E M x W rfl rfl ?_
  refine ld7 d E M x W rfl ?_
  refine st7 d E M x W (by decide) rfl ?_
  refine ld12 d E M x W ?_
  refine ld5 d E M x W ?_
  refine ld8 d E M x W rfl ?_
  refine st8 d E M x W (by decide) rfl ?_
  refine ld12 d E M x W ?_
  refine ld9 d E M x W rfl ?_
  refine st9 d E M x W (by decide) rfl ?_
  exact hQ.trans fupd_intro

end Cert.KernelIdeal.Run

end
-- ==== Proof.KernelIdealRun.lean ====
module

public import proofs.«01_k».proof.Proof.KernelIdealBody
public import proofs.«01_k».proof.Proof.Gen.KernelIdeal.Frame
public import Idealize.ShloMosaic.Lib.Claim

/-!
  The run of `KernelIdeal`: what each window's buffer holds after the body at a grid point, and from it the state every
  execution ends in.
-/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Body Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the body reads at point `t`. -/
def ins (c : Dev nD) (t : Fin cfg0.N) : Ins F where
  x1 := iblk m c 0 t
  x2 := iblk m c 1 t
  x3 := iblk m c 2 t
  x4 := iblk m c 3 t
  x5 := iblk m c 4 t

/-- The buffers the body is called with at point `t`. -/
def mems (t : Fin cfg0.N) : Mems sig where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := Memref.whole cc0_scratch0
  h12 := Memref.isWhole_whole _
  a13 := Memref.whole cc0_scratch1
  h13 := Memref.isWhole_whole _

/-- The proof data: each read block stays, each result's buffer ends at what the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => QC (ins m c t)
    | ⟨6, _⟩ => qsV (ins m c t) 12
    | ⟨7, _⟩ => kvV (ins m c t)
    | ⟨8, _⟩ => peV (ins m c t)
    | ⟨9, _⟩ => XC (ins m c t)
    | ⟨10, _⟩ => xsV (ins m c t) 56
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- The body leaves input window 0 as it was. -/
theorem after0_0 (c : Dev nD) (t : Fin cfg0.N) : (dats m 0 c).after 0 t = iblk m c 0 t := by dsimp only [dats]
/-- The body leaves input window 1 as it was. -/
theorem after0_1 (c : Dev nD) (t : Fin cfg0.N) : (dats m 0 c).after 1 t = iblk m c 1 t := by dsimp only [dats]
/-- The body leaves input window 2 as it was. -/
theorem after0_2 (c : Dev nD) (t : Fin cfg0.N) : (dats m 0 c).after 2 t = iblk m c 2 t := by dsimp only [dats]
/-- The body leaves input window 3 as it was. -/
theorem after0_3 (c : Dev nD) (t : Fin cfg0.N) : (dats m 0 c).after 3 t = iblk m c 3 t := by dsimp only [dats]
/-- The body leaves input window 4 as it was. -/
theorem after0_4 (c : Dev nD) (t : Fin cfg0.N) : (dats m 0 c).after 4 t = iblk m c 4 t := by dsimp only [dats]
/-- What the body leaves of the queries' codes. -/
theorem after0_5 (c : Dev nD) (t : Fin cfg0.N) : (dats m 0 c).after 5 t = QC (ins m c t) := by dsimp only [dats]
/-- What it leaves of the queries' scales. -/
theorem after0_6 (c : Dev nD) (t : Fin cfg0.N) : (dats m 0 c).after 6 t = qsV (ins m c t) 12 := by dsimp only [dats]
/-- What it leaves of the normalised keys and values. -/
theorem after0_7 (c : Dev nD) (t : Fin cfg0.N) : (dats m 0 c).after 7 t = kvV (ins m c t) := by dsimp only [dats]
/-- What it leaves of the last 64 columns. -/
theorem after0_8 (c : Dev nD) (t : Fin cfg0.N) : (dats m 0 c).after 8 t = peV (ins m c t) := by dsimp only [dats]
/-- What it leaves of the activations' codes. -/
theorem after0_9 (c : Dev nD) (t : Fin cfg0.N) : (dats m 0 c).after 9 t = XC (ins m c t) := by dsimp only [dats]
/-- What it leaves of the activations' scales. -/
theorem after0_10 (c : Dev nD) (t : Fin cfg0.N) : (dats m 0 c).after 10 t = xsV (ins m c t) 56 := by dsimp only [dats]

/-- The body finds input window 0 holding its block. -/
theorem before0_0 (c : Dev nD) (t : Fin cfg0.N) (d) : (dats m 0 c).before 0 t d = iblk m c 0 t :=
  before0_0_of m (dats m 0 c) (A_eq m c 0) (after0_0 m c) t d
/-- The body finds input window 1 holding its block. -/
theorem before0_1 (c : Dev nD) (t : Fin cfg0.N) (d) : (dats m 0 c).before 1 t d = iblk m c 1 t :=
  before0_1_of m (dats m 0 c) (A_eq m c 1) (after0_1 m c) t d
/-- The body finds input window 2 holding its block. -/
theorem before0_2 (c : Dev nD) (t : Fin cfg0.N) (d) : (dats m 0 c).before 2 t d = iblk m c 2 t :=
  before0_2_of m (dats m 0 c) (A_eq m c 2) (after0_2 m c) t d
/-- The body finds input window 3 holding its block. -/
theorem before0_3 (c : Dev nD) (t : Fin cfg0.N) (d) : (dats m 0 c).before 3 t d = iblk m c 3 t :=
  before0_3_of m (dats m 0 c) (A_eq m c 3) (after0_3 m c) t d
/-- The body finds input window 4 holding its block. -/
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- What the body neither reads nor writes. -/
def rest (c : Dev nD) (t : Fin cfg0.N) : sProp 𝕄 :=
  iprop((∃ r, prngReg c r) ∗ (dats m 0 c).owesAt () t.castSucc)

/-- Before the body nothing is known of what it fills. -/
theorem pre_St (c : Dev nD) (t : Fin cfg0.N) :
    bodyPre m c t ⊢ St c (mems t) (ins m c t) (rest m c t) none 0 none none none false false false false := by
  unfold bodyPre St rest Cert.Body.own
  simp only [before0_0, before0_1, before0_2, before0_3, before0_4]
  rw [show (dats m 0 c).Φ t.castSucc = Pipeline.ΦA spec0 c from rfl]
  unfold Pipeline.ΦA
  rw [scopedRest0_eq]
  iintro ⟨⟨⟨⟨%f0, Hs0⟩, ⟨%f1, Hs1⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; exact ⟨⟨0, rfl⟩, fun y hy => absurd hy (Nat.not_lt_zero _)⟩
  isplitl [H6]
  · iexists _; isplitr; swap; · iexact H6
    ipureintro; exact fun h => absurd h (by decide)
  isplitl [H7]
  · iexists _; isplitr; swap; · iexact H7
    ipureintro; exact fun h => absurd h (by decide)
  isplitl [H8]
  · iexists _; isplitr; swap; · iexact H8
    ipureintro; exact fun h => absurd h (by decide)
  isplitl [H9]
  · iexists _; isplitr; swap; · iexact H9
    ipureintro; exact ⟨⟨0, rfl⟩, fun y hy => absurd hy (Nat.not_lt_zero _)⟩
  isplitl [H10]
  · iexists _; isplitr; swap; · iexact H10
    ipureintro; exact fun h => absurd h (by decide)
  isplitl [Hs0]
  · iexists f0; isplitr; · ipureintro; trivial
    rw [show (mems t).a12 = Memref.whole cc0_scratch0 from rfl, owns_whole]; iexact Hs0
  isplitl [Hs1]
  · iexists f1; isplitr
    · ipureintro
      exact ⟨⟨⟨0, rfl⟩, ⟨0, rfl⟩⟩, fun y hy => hy.elim (fun h => absurd h (Nat.not_lt_zero _)) (fun h => absurd h.2 (Nat.not_lt_zero _))⟩
    rw [show (mems t).a13 = Memref.whole cc0_scratch1 from rfl, owns_whole]; iexact Hs1
  isplitl [Hp]; · iexact Hp
  iexact Ho

/-- After the body every result is there. -/
theorem St_post (c : Dev nD) (t : Fin cfg0.N) :
    St c (mems t) (ins m c t) (rest m c t) (some 7040) 7 none (some 7) (some 1408) true true true true ⊢ bodyPost m c t := by
  unfold bodyPost St rest Cert.Body.own
  rw [show (dats m 0 c).Φ t.succ = Pipeline.ΦA spec0 c from rfl,
    show (dats m 0 c).owesAt () t.succ = (dats m 0 c).owesAt () t.castSucc from rfl,
    after0_0, after0_1, after0_2, after0_3, after0_4, after0_5, after0_6, after0_7, after0_8, after0_9, after0_10]
  unfold Pipeline.ΦA
  rw [scopedRest0_eq]
  rw [show (mems t).a12 = Memref.whole cc0_scratch0 from rfl, show (mems t).a13 = Memref.whole cc0_scratch1 from rfl]
  simp only [owns_whole]
  iintro ⟨⟨%X0, %h0, H0⟩, ⟨%X1, %h1, H1⟩, ⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, -, Hs0⟩, ⟨%X12, -, Hs1⟩, Hp, Ho⟩
  have e5 : X5 = QC (ins m c t) := funext fun y => h5.2 y (y 1).isLt
  have e6 : X6 = _ := h6 rfl
  have e7 : X7 = _ := h7 rfl
  have e8 : X8 = _ := h8 rfl
  have e9 : X9 = XC (ins m c t) := funext fun y => h9.2 y (y 1).isLt
  have e10 : X10 = _ := h10 rfl
  subst h0 h1 h2 h3 h4 e5 e6 e7 e8 e9 e10
  isplitl [Hs0 Hs1 Hp]
  · isplitl [Hs0 Hs1]
    · isplitl [Hs0]
      · iexists X11; iexact Hs0
      iexists X12; iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  have h := body c Set.univ (mems t) (ins m c t) (rest m c t) (grid0.coords t) (fun _ => bodyPost m c t) (St_post m c t)
  have e : bodyAt0 (F := F) t = cc0__kernel (grid0.coords t) (mems t).a1 (mems t).h1 (mems t).a2 (mems t).h2 (mems t).a3 (mems t).h3 (mems t).a4 (mems t).h4 (mems t).a5 (mems t).h5
      (mems t).a6 (mems t).h6 (mems t).a7 (mems t).h7 (mems t).a8 (mems t).h8 (mems t).a9 (mems t).h9 (mems t).a10 (mems t).h10 (mems t).a11 (mems t).h11 (mems t).a12 (mems t).h12 (mems t).a13 (mems t).h13 := by
    dsimp only [mems]
  rw [e]
  exact (pre_St m c t).trans h

/-- The pipeline's body at a point is the printed one there. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends, with the windows' arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Scale.lean ====
module

public import Idealize.ShloMosaic.Lib.Pointwise
public import Mathlib.Data.BitVec

/-!
  One scale over the extended reals: the kernel's, found by counting the powers of two its argument reaches and read
  off a word's exponent field, is the least power of two above the argument; so is the reference's.
-/

@[expose] public section

set_option maxRecDepth 16384

noncomputable section

namespace Cert.Scale

open Idealize.ShloMosaic

/-- The word whose exponent field is `k` and whose other bits are zero. -/
def word (k : ℕ) : BitVec 32 := BitVec.ofNat 32 (k * 8388608)

/-- The value of the word whose exponent field is `k` and whose other bits are zero. -/
def pw (k : ℕ) : EReal := Ideal.ofBits .f32 (word k)

/-- The sign, exponent and fraction of each exponent word. -/
theorem bits_pw : ∀ k : Fin 256, ((word k).extractLsb' 31 1 = 0#1)
    ∧ ((word k).extractLsb' 23 8).toNat = (k : ℕ)
    ∧ ((word k).extractLsb' 0 23).toNat = 0 := by decide +kernel

/-- Between the ends it is the power of two `k - 127`. -/
theorem pw_eq (k : ℕ) (h0 : 0 < k) (h1 : k < 255) : pw k = (((2 : ℝ) ^ ((k : ℤ) - 127) : ℝ) : EReal) := by
  obtain ⟨ha, hb, hc⟩ := bits_pw ⟨k, by omega⟩
  dsimp only at ha hb hc
  unfold pw Ideal.ofBits Ideal.ieee
  dsimp only
  rw [show 8 + 23 = 31 from rfl, ha, hb, hc, if_neg (by norm_num; omega), if_neg (by omega)]
  congr 1
  simp only [show ((0#1 : BitVec 1) == 1#1) = false from rfl, Bool.false_eq_true, if_false, one_mul, add_zero]
  push_cast
  rw [show (8388608:ℝ) = (2:ℝ)^(23:ℤ) by norm_num, ← zpow_add₀ (by norm_num)]
  congr 1
  norm_num

/-- The last exponent word reads as infinity. -/
theorem pw_top : pw 255 = ⊤ := by
  simp [pw, word, Ideal.ofBits, Ideal.ieee]

/-- The word of exponent 127 reads as 1. -/
theorem pw_one : pw 127 = 1 := by rw [pw_eq 127 (by decide) (by decide)]; norm_num

/-- The powers rise. -/
theorem pw_mono {a b : ℕ} (h0 : 0 < a) (h : a ≤ b) (hb : b < 256) : pw a ≤ pw b := by
  rcases Nat.lt_or_ge b 255 with h1 | h1
  · rw [pw_eq a h0 (by omega), pw_eq b (by omega) h1]
    exact EReal.coe_le_coe_iff.mpr (zpow_le_zpow_right₀ (by norm_num) (by omega))
  · obtain rfl : b = 255 := by omega
    rw [pw_top]; exact le_top

/-- The kernel's exponent field of `m`: a unit of it for every power of two that `m` reaches. -/
def fieldS (m : EReal) : BitVec 32 :=
  Finset.fold IntOp.addi (0#32) (fun x : Fin 256 =>
    Scalar.select (IntOp.ori (IntOp.cmpi CmpIPredicate.eq (BitVec.ofNat 32 (x : ℕ)) 0#32)
      (BitVec.ofBool (decide (m < Ideal.ofBits FTy.f32 (IntOp.shli ArithUnit.vector (BitVec.ofNat 32 (x : ℕ)) 23#32)))))
      0#32 8388608#32) Finset.univ

/-- The bits of the kernel's scale. -/
def sbitsS (m : EReal) : BitVec 32 :=
  Scalar.select (IntOp.cmpi CmpIPredicate.eq (fieldS m) 0#32) 1065353216#32 (IntOp.addi (fieldS m) 8388608#32)

/-- The kernel's scale … -/
def kscale (m : EReal) : EReal := Ideal.ofBits FTy.f32 (sbitsS m)

/-- … and its inverse. -/
def kinv (m : EReal) : EReal := Ideal.ofBits FTy.f32 (IntOp.subi (2130706432#32) (sbitsS m))

/-- A count's term. -/
def unit (n : ℕ) (k : Fin 256) : BitVec 32 := if (k : ℕ) = 0 ∨ n < (k : ℕ) then 0#32 else 8388608#32

/-- The first exponent word is zero. -/
theorem word_zero : word 0 = 0#32 := rfl

/-- One unit more is the next exponent word. -/
theorem word_succ (j : ℕ) : word j + 8388608#32 = word (j + 1) := by
  unfold word
  apply BitVec.eq_of_toNat_eq
  rw [BitVec.toNat_add, BitVec.toNat_ofNat, BitVec.toNat_ofNat, BitVec.toNat_ofNat]
  omega

/-- A fold of word additions is a sum. -/
theorem fold_sum (s : Finset (Fin 256)) (f : Fin 256 → BitVec 32) : Finset.fold IntOp.addi (0#32) f s = ∑ k ∈ s, f k := rfl

/-- The units counted up to a bound, as an exponent word. -/
theorem sum_unit (n j : ℕ) : ∑ k ∈ Finset.range j, (if k = 0 ∨ n < k then 0#32 else 8388608#32) = word (min n (j - 1)) := by
  induction j with
  | zero => rw [Finset.sum_range_zero, show min n (0 - 1) = 0 by omega, word_zero]; rfl
  | succ j ih =>
    rw [Finset.sum_range_succ, ih]
    by_cases hk : j = 0 ∨ n < j
    · rw [if_pos hk, show min n (j + 1 - 1) = min n (j - 1) by omega]
      exact BitVec.add_zero _
    · rw [if_neg hk, show min n (j - 1) = j - 1 by omega, show min n (j + 1 - 1) = j - 1 + 1 by omega]
      exact word_succ _

/-- The units of all powers up to the `n`-th add up to the `n`-th exponent word. -/
theorem fold_unit (n : ℕ) (hn : n < 256) : Finset.fold IntOp.addi (0#32) (unit n) Finset.univ = word n := by
  have h2 := sum_unit n 256
  rw [show min n (256 - 1) = n by omega, Finset.sum_range] at h2
  exact (fold_sum _ _).trans h2

/-- A number shifted by 23 bits is its exponent word. -/
theorem shl_pw : ∀ k : Fin 256, IntOp.shli ArithUnit.vector (BitVec.ofNat 32 (k : ℕ)) 23#32 = word (k : ℕ) := by
  decide +kernel

/-- The comparison of a small word with zero. -/
theorem eq0_bit : ∀ k : Fin 256, IntOp.cmpi CmpIPredicate.eq (BitVec.ofNat 32 (k : ℕ)) 0#32 = BitVec.ofBool (decide ((k : ℕ) = 0)) := by
  decide +kernel

/-- An argument that reaches the first `n` powers and no more has the field `n`. -/
theorem field_eq (m : EReal) (n : ℕ) (hn : n < 256) (hle : ∀ k, 0 < k → k ≤ n → pw k ≤ m) (hlt : ∀ k, n < k → k < 256 → m < pw k) :
    fieldS m = word n := by
  refine Eq.trans ?_ (fold_unit n hn)
  unfold fieldS
  refine congrArg (fun f => Finset.fold IntOp.addi (0#32) f Finset.univ) (funext fun k => ?_)
  rw [shl_pw, eq0_bit]
  unfold unit
  by_cases h0 : (k : ℕ) = 0
  · rw [if_pos (Or.inl h0), h0]
    cases (decide (m < Ideal.ofBits FTy.f32 (word 0))) <;> rfl
  · by_cases h1 : n < (k : ℕ)
    · have := hlt k h1 k.isLt
      unfold pw at this
      rw [if_pos (Or.inr h1), decide_eq_true this, decide_eq_false h0]
      rfl
    · have := hle k (by omega) (by omega)
      unfold pw at this
      rw [if_neg (by omega), decide_eq_false (not_lt.mpr this), decide_eq_false h0]
      rfl

/-- The powers below `2 ^ 126` that a value reaches are the first `n` for some `n`. -/
theorem exists_n (m : EReal) (hm : m < pw 253) : ∃ n, n ≤ 252 ∧ (∀ k, 0 < k → k ≤ n → pw k ≤ m) ∧ (∀ k, n < k → k < 256 → m < pw k) := by
  classical
  have hex : ∃ n, m < pw (n + 1) := ⟨252, hm⟩
  refine ⟨Nat.find hex, Nat.find_min' hex hm, fun k h0 hk => ?_, fun k h0 hk => ?_⟩
  · have := Nat.find_min hex (m := k - 1) (by omega)
    rw [show k - 1 + 1 = k by omega] at this
    exact not_lt.mp this
  · exact lt_of_lt_of_le (Nat.find_spec hex) (pw_mono (by omega) (by omega) hk)

/-- The kernel's scale is one below the least normal power … -/
theorem kscale_small (m : EReal) (hm : m < pw 1) : kscale m = 1 ∧ kinv m = 1 := by
  have h := field_eq m 0 (by decide) (fun k h0 h1 => by omega) (fun k h0 h1 => lt_of_lt_of_le hm (pw_mono (by decide) h0 h1))
  have hs : sbitsS m = 1065353216#32 := by unfold sbitsS; rw [h]; rfl
  constructor
  · unfold kscale; rw [hs]; exact pw_one
  · unfold kinv; rw [hs]; exact pw_one

/-- The scale word of an exponent field: the next exponent word. -/
theorem sb_bits : ∀ n : Fin 253, 0 < (n : ℕ) → Scalar.select (IntOp.cmpi CmpIPredicate.eq (word n) 0#32) 1065353216#32
      (IntOp.addi (word n) 8388608#32) = word ((n : ℕ) + 1)
    ∧ IntOp.subi (2130706432#32) (word ((n : ℕ) + 1)) = word (253 - (n : ℕ)) := by
  decide +kernel

/-- … and otherwise the power of two next above. -/
theorem kscale_big (m : EReal) (n : ℕ) (h0 : 0 < n) (hn : n ≤ 252) (hle : ∀ k, 0 < k → k ≤ n → pw k ≤ m) (hlt : ∀ k, n < k → k < 256 → m < pw k) :
    kscale m = pw (n + 1) ∧ kinv m = pw (253 - n) := by
  have h := field_eq m n (by omega) hle hlt
  obtain ⟨h1, h2⟩ := sb_bits ⟨n, by omega⟩ h0
  dsimp only at h1 h2
  have hs : sbitsS m = word (n + 1) := by unfold sbitsS; rw [h]; exact h1
  constructor
  · unfold kscale; rw [hs]; rfl
  · unfold kinv; rw [hs, h2]; rfl

/-- The reference's scale of `m`. -/
def rscale (m : EReal) : EReal :=
  Scalar.select (BitVec.ofBool (decide (m < Ideal.ofBits FTy.f32 8388608#32))) 1
    (Finset.fold min (Ideal.ofBits FTy.f32 2139095040#32) (fun k : Fin 254 =>
      Scalar.select (BitVec.ofBool (decide (m < Ideal.exp2 (((((BitVec.ofNat 32 (k : ℕ) - 126#32).toInt : ℤ) : ℝ) : EReal)))))
        (Ideal.exp2 (((((BitVec.ofNat 32 (k : ℕ) - 126#32).toInt : ℤ) : ℝ) : EReal))) (Ideal.ofBits FTy.f32 2139095040#32)) Finset.univ)

/-- A small word less 126, as an integer. -/
theorem toInt_sub : ∀ k : Fin 254, (BitVec.ofNat 32 (k : ℕ) - 126#32).toInt = ((k : ℕ) : ℤ) - 126 := by decide +kernel

/-- The reference's powers of two are the exponent words' values. -/
theorem exp2_pw (k : Fin 254) : Ideal.exp2 (((((BitVec.ofNat 32 (k : ℕ) - 126#32).toInt : ℤ) : ℝ) : EReal)) = pw ((k : ℕ) + 1) := by
  rw [toInt_sub, Ideal.exp2_coe, pw_eq _ (by omega) (by omega)]
  congr 1
  show (2 : ℝ) ^ ((((k : ℕ) : ℤ) - 126 : ℤ) : ℝ) = _
  rw [Real.rpow_intCast]
  congr 1
  push_cast
  ring

/-- Below the smallest normal number the reference's scale is 1. -/
theorem rscale_small (m : EReal) (hm : m < pw 1) : rscale m = 1 := by
  unfold rscale
  rw [show Ideal.ofBits FTy.f32 8388608#32 = pw 1 from rfl, decide_eq_true hm]
  rfl

/-- Elsewhere the reference's scale is the least power of two above the argument. -/
theorem rscale_big (m : EReal) (n : ℕ) (h0 : 0 < n) (hn : n ≤ 252) (hle : ∀ k, 0 < k → k ≤ n → pw k ≤ m) (hlt : ∀ k, n < k → k < 256 → m < pw k) :
    rscale m = pw (n + 1) := by
  unfold rscale
  rw [show Ideal.ofBits FTy.f32 8388608#32 = pw 1 from rfl, decide_eq_false (not_lt.mpr (hle 1 (by decide) h0)),
    show Ideal.ofBits FTy.f32 2139095040#32 = ⊤ from pw_top]
  simp only [exp2_pw]
  rw [show BitVec.ofBool false = 0#1 from rfl, ValueIdx.select_zero]
  apply le_antisymm
  · refine (Finset.fold_min_le _).mpr (Or.inr ⟨⟨n, by omega⟩, Finset.mem_univ _, ?_⟩)
    dsimp only
    rw [decide_eq_true (hlt (n + 1) (by omega) (by omega)), show BitVec.ofBool true = 1#1 from rfl, ValueIdx.select_one]
  · refine (Finset.le_fold_min _).mpr ⟨le_top, fun k _ => ?_⟩
    by_cases hk : m < pw ((k : ℕ) + 1)
    · rw [decide_eq_true hk, show BitVec.ofBool true = 1#1 from rfl, ValueIdx.select_one]
      refine pw_mono (by omega) ?_ (by omega)
      by_contra hc
      exact absurd (hle ((k : ℕ) + 1) (by omega) (by omega)) (not_le.mpr hk)
    · rw [decide_eq_false hk, show BitVec.ofBool false = 0#1 from rfl, ValueIdx.select_zero]
      exact le_top

/-- Below `2 ^ 126` the kernel's scale is the reference's … -/
theorem kscale_eq (m : EReal) (hm : m < pw 253) : kscale m = rscale m := by
  by_cases h : m < pw 1
  · rw [(kscale_small m h).1, rscale_small m h]
  · obtain ⟨n, hn, hle, hlt⟩ := exists_n m hm
    have h0 : 0 < n := by
      by_contra hc
      exact h (hlt 1 (by omega) (by decide))
    rw [(kscale_big m n h0 hn hle hlt).1, rscale_big m n h0 hn hle hlt]

/-- … and the inverse the kernel reads off the word is the quotient the reference takes. -/
theorem kinv_eq (m : EReal) (hm : m < pw 253) : kinv m = Ideal.div 1 (rscale m) := by
  by_cases h : m < pw 1
  · rw [(kscale_small m h).2, rscale_small m h, ← EReal.coe_one, Ideal.div_coe one_ne_zero]
    norm_num
  · obtain ⟨n, hn, hle, hlt⟩ := exists_n m hm
    have h0 : 0 < n := by
      by_contra hc
      exact h (hlt 1 (by omega) (by decide))
    rw [(kscale_big m n h0 hn hle hlt).2, rscale_big m n h0 hn hle hlt, pw_eq (n + 1) (by omega) (by omega),
      pw_eq (253 - n) (by omega) (by omega), Ideal.div_coe (by positivity), one_mul]
    congr 1
    rw [one_div, ← zpow_neg]
    congr 1
    omega

/-- The largest absolute value of 128 values, over 448. -/
def top (f : Fin 128 → EReal) : EReal :=
  Finset.fold max (Ideal.ofBits FTy.f32 4286578688#32) (fun l => FloatOps.absf (F := Ideal) (φ := .f32) (f l)) Finset.univ
    * Ideal.ofBits FTy.f32 991054117#32

/-- A value times a scale's inverse, clipped to ±448. -/
def clip (z i : EReal) : EReal := min (Ideal.ofBits FTy.f32 1138753536#32) (max (Ideal.ofBits FTy.f32 3286237184#32) (z * i))

/-- The normaliser of a sum of squares: the inverse root of the sum over `d`, plus a millionth. -/
def norm (d : BitVec 32) (s : EReal) : EReal := Ideal.rsqrt (Ideal.div s (Ideal.ofBits FTy.f32 d) + Ideal.ofBits FTy.f32 897988541#32)

end Cert.Scale

end
-- ==== Proof.BlockValue.lean ====
module

public import proofs.«01_k».proof.Proof.Body
public import proofs.«01_k».proof.Proof.Scale

/-!
  The kernel's block functions read at an index, over the extended reals.
-/

@[expose] public section

set_option maxRecDepth 16384

noncomputable section

namespace Cert.BlockValue

open Idealize.ShloMosaic
open Cert.Body Cert.Scale

/-- Two indices of a matrix with the same row and the same column are one. -/
theorem idx_ext2 {a b : ℕ} {i j : (⟨2, ![a, b]⟩ : Shape).Idx} (h0 : (i 0 : ℕ) = (j 0 : ℕ)) (h1 : (i 1 : ℕ) = (j 1 : ℕ)) : i = j := by
  funext d
  match d with
  | ⟨0, _⟩ => exact Fin.ext h0
  | ⟨1, _⟩ => exact Fin.ext h1

/-- An index of a rectangle of a matrix is the matrix's index at the rectangle's offsets. -/
theorem emb2 {d s : Fin 2 → ℕ} {p q : ℕ} (h) (j : (⟨2, s⟩ : Shape).Idx) (r : Fin (d 0)) (c : Fin (d 1))
    (hr : p + (j 0 : ℕ) = (r : ℕ)) (hc : q + (j 1 : ℕ) = (c : ℕ)) :
    (Rect.unit (s := (⟨2, d⟩ : Shape)) ![p, q] s h).emb j = Shape.pair (d := d) r c := by
  funext k
  apply Fin.ext
  match k with
  | ⟨0, _⟩ => show p + 1 * (j 0 : ℕ) = (r : ℕ); omega
  | ⟨1, _⟩ => show q + 1 * (j 1 : ℕ) = (c : ℕ); omega

/-- A pair of coordinates is the index made of them. -/
theorem pair_eq {a b : ℕ} (i : Fin a) (j : Fin b) : (Shape.pair (d := ![a, b]) i j) = ix2 i j := by
  funext d
  match d with
  | ⟨0, _⟩ => rfl
  | ⟨1, _⟩ => rfl

/-- The same, the matrix's index by its coordinates. -/
theorem emb2' {a b : ℕ} {s : Fin 2 → ℕ} {p q : ℕ} (h) (j : (⟨2, s⟩ : Shape).Idx) (r : Fin a) (c : Fin b)
    (hr : p + (j 0 : ℕ) = (r : ℕ)) (hc : q + (j 1 : ℕ) = (c : ℕ)) :
    (Rect.unit (s := (⟨2, ![a, b]⟩ : Shape)) ![p, q] s h).emb j = ix2 r c :=
  (emb2 (d := ![a, b]) h j r c hr hc).trans (pair_eq r c)

/-! ## One quantised block -/

/-- A row's largest absolute value over 448 is `top` of the row. -/
theorem amax_apply (v : FVec Ideal S256x128 .f32) (r : Fin 256) : amax v (ix2 r 0) = top fun l => v (ix2 r l) := by
  pointwise [amax]
  rfl

/-- The exponent field of a row is the scalar one at that row. -/
theorem field_apply (m : FVec Ideal S256x1 .f32) (r : Fin 256) : field m (ix2 r 0) = fieldS (m (ix2 r 0)) := by
  pointwise [field]
  rfl

/-- A row's scale word is the scalar one of the row's `top`. -/
theorem sbits_apply (v : FVec Ideal S256x128 .f32) (r : Fin 256) : sbits v (ix2 r 0) = sbitsS (top fun l => v (ix2 r l)) := by
  pointwise [sbits]
  rw [field_apply, amax_apply]
  rfl

/-- A row's scale is the kernel's scale of the row's `top`. -/
theorem scale_apply (v : FVec Ideal S256x128 .f32) (r : Fin 256) : scale v (ix2 r 0) = kscale (top fun l => v (ix2 r l)) := by
  pointwise [scale]
  rw [sbits_apply]
  rfl

/-- A code is its element over the row's scale, clipped to ±448. -/
theorem codes_apply (v : FVec Ideal S256x128 .f32) (r : Fin 256) (l : Fin 128) :
    codes v (ix2 r l) = clip (v (ix2 r l)) (kinv (top fun l => v (ix2 r l))) := by
  pointwise [codes, Body.inv]
  rw [sbits_apply]
  rfl

/-- A dequantised element is its code times the row's scale. -/
theorem part_apply (v : FVec Ideal S256x128 .f32) (r : Fin 256) (l : Fin 128) :
    part v (ix2 r l) = codes v (ix2 r l) * scale v (ix2 r 0) := by
  pointwise [part]

/-! ## The activations -/

/-- A block of 128 columns of the activations, element by element. -/
theorem xblk_apply (x : Ins Ideal) (r : Fin 256) (l : Fin 128) (o : ℕ) (h : o + 128 ≤ 7168) :
    xblk x o (ix2 r l) = x.x2 (ix2 r ⟨o + (l : ℕ), by omega⟩) := by
  rw [xblk, dif_pos ⟨by omega, h⟩]
  pointwise
  exact congrArg x.x2 (emb2' _ _ _ _ (Nat.zero_add _) rfl)

/-- Chunk `c` of the quantised activations, column by column. -/
theorem Xf_apply (x : Ins Ideal) (c : ℕ) (r : Fin 256) (l : Fin 1024) :
    Xf x c (ix2 r l) = part (xblk x (1024 * c + 128 * ((l : ℕ) / 128))) (ix2 r ⟨(l : ℕ) % 128, by omega⟩) := by
  pointwise [Xf]
  have hl : (l : ℕ) < 1024 := l.isLt
  have key : ∀ (p b : ℕ) (hb : b < 128), p = 1024 * c + 128 * ((l : ℕ) / 128) → b = (l : ℕ) % 128 →
      part (xblk x p) (ix2 r ⟨b, hb⟩) = part (xblk x (1024 * c + 128 * ((l : ℕ) / 128))) (ix2 r ⟨(l : ℕ) % 128, by omega⟩) := by
    intro p b hb hp hb'
    subst hp hb'
    rfl
  split_ifs <;> exact key _ _ _ (by omega) (by omega)

/-! ## The weights -/

/-- The scale read for a block of the weights is the array's element there. -/
theorem wsc_apply (x : Ins Ideal) (a b : ℕ) (ha : a < 17) (hb : b < 56) : wsc x a b = x.x1 (ix2 ⟨a, ha⟩ ⟨b, hb⟩) := by
  rw [wsc, dif_pos ⟨by omega, by omega⟩]
  exact congrArg x.x1 (emb2' _ _ _ _ rfl rfl)

/-- A block of 128 rows of the weights times its scale, element by element. -/
theorem wcell_apply (x : Ins Ideal) (c a b : ℕ) (r : Fin 128) (l : Fin 128) (h : a + 128 ≤ 2112 ∧ (1024 * c + b) + 128 ≤ 7168) :
    wcell x c a b (ix2 r l) = x.x3 (ix2 ⟨a + (r : ℕ), by omega⟩ ⟨1024 * c + b + (l : ℕ), by omega⟩) * wsc x (a / 128) (8 * c + b / 128) := by
  rw [wcell, dif_pos h]
  pointwise
  rw [emb2' _ _ ⟨a + (r : ℕ), by omega⟩ ⟨1024 * c + b + (l : ℕ), by omega⟩ rfl rfl]

/-- The last block of 64 rows of the weights times its scale, element by element. -/
theorem wcell'_apply (x : Ins Ideal) (c a b : ℕ) (r : Fin 64) (l : Fin 128) (h : a + 64 ≤ 2112 ∧ (1024 * c + b) + 128 ≤ 7168) :
    wcell' x c a b (ix2 r l) = x.x3 (ix2 ⟨a + (r : ℕ), by omega⟩ ⟨1024 * c + b + (l : ℕ), by omega⟩) * wsc x (a / 128) (8 * c + b / 128) := by
  rw [wcell', dif_pos h]
  pointwise
  rw [emb2' _ _ ⟨a + (r : ℕ), by omega⟩ ⟨1024 * c + b + (l : ℕ), by omega⟩ rfl rfl]

/-- Chunk `c` of the scaled weights, element by element. -/
theorem Wf_apply (x : Ins Ideal) (c : ℕ) (hc : c < 7) (o : Fin 2112) (l : Fin 1024) :
    Wf x c (ix2 o l) = x.x3 (ix2 o ⟨1024 * c + (l : ℕ), by omega⟩) * x.x1 (ix2 ⟨(o : ℕ) / 128, by omega⟩ ⟨(1024 * c + (l : ℕ)) / 128, by omega⟩) := by
  have ho : (o : ℕ) < 2112 := o.isLt
  have hl : (l : ℕ) < 1024 := l.isLt
  unfold Wf
  by_cases h : (o : ℕ) < 2048
  · rw [dif_pos (show ((ix2 o l : (⟨2, ![2112, 1024]⟩ : Shape).Idx) 0 : ℕ) < 2048 from h)]
    refine (congrArg (wcell x c (128 * ((o : ℕ) / 128)) (128 * ((l : ℕ) / 128)))
      (pair_eq (a := 128) (b := 128) ⟨(o : ℕ) % 128, Nat.mod_lt _ (by decide)⟩ ⟨(l : ℕ) % 128, Nat.mod_lt _ (by decide)⟩)).trans ?_
    rw [wcell_apply _ _ _ _ _ _ (by constructor <;> simp <;> omega), wsc_apply _ _ _ (by simp; omega) (by simp; omega)]
    congr 2
    · apply idx_ext2 <;> simp <;> omega
    · apply idx_ext2 <;> simp <;> omega
  · rw [dif_neg (show ¬((ix2 o l : (⟨2, ![2112, 1024]⟩ : Shape).Idx) 0 : ℕ) < 2048 from h)]
    refine (congrArg (wcell' x c 2048 (128 * ((l : ℕ) / 128)))
      (pair_eq (a := 64) (b := 128) ⟨(o : ℕ) - 2048, by omega⟩ ⟨(l : ℕ) % 128, Nat.mod_lt _ (by decide)⟩)).trans ?_
    rw [wcell'_apply _ _ _ _ _ _ (by constructor <;> simp <;> omega), wsc_apply _ _ _ (by simp) (by simp; omega)]
    congr 2
    · apply idx_ext2 <;> simp <;> omega
    · apply idx_ext2 <;> simp <;> omega

/-! ## The product -/

/-- One chunk's product. -/
theorem accStep_apply (x : Ins Ideal) (c : ℕ) (a : FVec Ideal S256x2112 .f32) (r : Fin 256) (o : Fin 2112) :
    accStep x c a (ix2 r o) = a (ix2 r o) + ∑ k : Fin 1024, Xf x c (ix2 r k) * Wf x c (ix2 o k) := by
  pointwise [accStep, dotD]
  rw [emb2' _ _ r o (Nat.zero_add _) (Nat.zero_add _)]
  refine congrArg (a (ix2 r o) + ·) (Finset.sum_congr rfl fun k _ => ?_)
  rw [emb2' _ _ o k (Nat.zero_add _) (Nat.zero_add _)]

/-- Row `r`'s quantised activation in column `k`. -/
def xrow (x : Ins Ideal) (r : Fin 256) (k : ℕ) : EReal := part (xblk x (128 * (k / 128))) (ix2 r ⟨k % 128, Nat.mod_lt _ (by decide)⟩)

/-- Row `o`'s scaled weight in column `k`. -/
def wrow (x : Ins Ideal) (o : Fin 2112) (k : ℕ) : EReal :=
  if h : k < 7168 then x.x3 (ix2 o ⟨k, h⟩) * x.x1 (ix2 ⟨(o : ℕ) / 128, by omega⟩ ⟨k / 128, by omega⟩) else 0

/-- The accumulator after `n` chunks is the sum over their columns. -/
theorem accS_apply (x : Ins Ideal) (r : Fin 256) (o : Fin 2112) : ∀ n : ℕ, n ≤ 7 →
    accS x n (ix2 r o) = ∑ k ∈ Finset.range (1024 * n), xrow x r k * wrow x o k
  | 0, _ => by
    pointwise [accS]
    rfl
  | n + 1, hn => by
    rw [accS, accStep_apply, accS_apply x r o n (by omega), show 1024 * (n + 1) = 1024 * n + 1024 by ring, Finset.sum_range_add,
      Finset.sum_range (n := 1024)]
    refine congrArg (_ + ·) (Finset.sum_congr rfl fun k _ => ?_)
    have hk : (k : ℕ) < 1024 := k.isLt
    rw [Xf_apply, Wf_apply x n (by omega), wrow, dif_pos (by omega), xrow]
    have e1 : 1024 * n + 128 * ((k : ℕ) / 128) = 128 * ((1024 * n + (k : ℕ)) / 128) := by omega
    have e2 : (k : ℕ) % 128 = (1024 * n + (k : ℕ)) % 128 := by omega
    rw [e1]
    congr 4

/-- The whole product of row `r` and row `o`. -/
def prod (x : Ins Ideal) (r : Fin 256) (o : Fin 2112) : EReal :=
  ∑ k : Fin 7168, xrow x r k * (x.x3 (ix2 o k) * x.x1 (ix2 ⟨(o : ℕ) / 128, by omega⟩ ⟨(k : ℕ) / 128, by omega⟩))

/-- After all seven chunks the accumulator holds the whole product. -/
theorem acc_apply (x : Ins Ideal) (r : Fin 256) (o : Fin 2112) : accS x 7 (ix2 r o) = prod x r o := by
  rw [accS_apply x r o 7 le_rfl, show 1024 * 7 = 7168 from rfl, Finset.sum_range]
  refine Finset.sum_congr rfl fun k _ => ?_
  rw [wrow, dif_pos k.isLt]

/-! ## The two normalised parts and the third -/

/-- The factor of a row of queries is the inverse root of the row's mean square. -/
theorem qrs_apply (x : Ins Ideal) (r : Fin 256) :
    qrs x (ix2 r 0) = norm 1153433600#32 (∑ k : Fin 1536, prod x r ⟨(k : ℕ), by omega⟩ * prod x r ⟨(k : ℕ), by omega⟩) := by
  have h : ∀ k : Fin 1536, qacc x (ix2 r k) = prod x r ⟨(k : ℕ), by omega⟩ := fun k => by
    rw [← acc_apply]
    exact congrArg (accS x 7) (emb2' _ _ _ _ (Nat.zero_add _) (Nat.zero_add _))
  pointwise [qrs]
  simp only [h]
  rfl

/-- A block of 128 normalised queries, element by element. -/
theorem qblk_apply (x : Ins Ideal) (r : Fin 256) (l : Fin 128) (o : ℕ) (h : o + 128 ≤ 1536) :
    qblk x o (ix2 r l) = prod x r ⟨o + (l : ℕ), by omega⟩ * qrs x (ix2 r 0) * x.x4 (ix2 0 ⟨o + (l : ℕ), by omega⟩) := by
  rw [qblk, dif_pos ⟨⟨by omega, by omega⟩, by omega, h⟩]
  pointwise
  rw [emb2' _ _ r ⟨o + (l : ℕ), by omega⟩ (Nat.zero_add _) rfl, emb2' _ _ 0 ⟨o + (l : ℕ), by omega⟩ rfl rfl, acc_apply]

/-- The normalised keys and values, element by element. -/
theorem kv_apply (x : Ins Ideal) (r : Fin 256) (j : Fin 512) :
    kvV x (ix2 r j) = prod x r ⟨1536 + (j : ℕ), by omega⟩
      * norm 1140850688#32 (∑ k : Fin 512, prod x r ⟨1536 + (k : ℕ), by omega⟩ * prod x r ⟨1536 + (k : ℕ), by omega⟩) * x.x5 (ix2 0 j) := by
  have h : ∀ k : Fin 512, kacc x (ix2 r k) = prod x r ⟨1536 + (k : ℕ), by omega⟩ := fun k => by
    rw [← acc_apply]
    exact congrArg (accS x 7) (emb2' _ _ _ _ (Nat.zero_add _) rfl)
  pointwise [kvV]
  rw [emb2' _ _ 0 j rfl (Nat.zero_add _)]
  simp only [h]
  rfl

/-- The last 64 columns are the product unchanged. -/
theorem pe_apply (x : Ins Ideal) (r : Fin 256) (j : Fin 64) : peV x (ix2 r j) = prod x r ⟨2048 + (j : ℕ), by omega⟩ := by
  pointwise [peV]
  rw [emb2' _ _ r ⟨2048 + (j : ℕ), by omega⟩ (Nat.zero_add _) rfl, acc_apply]

/-! ## The scales, lane by lane -/

/-- A select on a lane number picks its first value at that lane and its second elsewhere. -/
theorem sel_lane (a n : ℕ) (ha : a < 4294967296) (hn : n < 4294967296) {α : Type} (u v : α) :
    Scalar.select (IntOp.cmpi CmpIPredicate.eq (BitVec.ofNat 32 a) (BitVec.ofNat 32 n)) u v = if a = n then u else v := by
  have h : IntOp.cmpi CmpIPredicate.eq (BitVec.ofNat 32 a) (BitVec.ofNat 32 n) = BitVec.ofBool (decide (BitVec.ofNat 32 a = BitVec.ofNat 32 n)) := rfl
  rw [h]
  by_cases e : a = n
  · rw [if_pos e, decide_eq_true (congrArg _ e)]; exact ValueIdx.select_one _ _
  · rw [if_neg e, decide_eq_false]
    · exact ValueIdx.select_zero _ _
    · intro hc
      have := congrArg BitVec.toNat hc
      rw [BitVec.toNat_ofNat, BitVec.toNat_ofNat] at this
      omega

/-- After `n` blocks every earlier lane holds its block's scale, for the activations. -/
theorem xs_apply (x : Ins Ideal) (r : Fin 256) (b : Fin 56) : ∀ n : ℕ, (b : ℕ) < n → n ≤ 56 →
    xsV x n (ix2 r b) = scale (xblk x (128 * (b : ℕ))) (ix2 r 0)
  | 0, h, _ => absurd h (by omega)
  | n + 1, h, hn => by
    pointwise [xsV]
    rw [sel_lane _ _ (by omega) (by omega)]
    by_cases e : (b : ℕ) = n
    · rw [if_pos e, e]
    · rw [if_neg e]; exact xs_apply x r b n (by omega) (by omega)

/-- After `n` blocks every earlier lane holds its block's scale, for the queries. -/
theorem qs_apply (x : Ins Ideal) (r : Fin 256) (b : Fin 12) : ∀ n : ℕ, (b : ℕ) < n → n ≤ 12 →
    qsV x n (ix2 r b) = scale (qblk x (128 * (b : ℕ))) (ix2 r 0)
  | 0, h, _ => absurd h (by omega)
  | n + 1, h, hn => by
    pointwise [qsV]
    rw [sel_lane _ _ (by omega) (by omega)]
    by_cases e : (b : ℕ) = n
    · rw [if_pos e, e]
    · rw [if_neg e]; exact qs_apply x r b n (by omega) (by omega)

end Cert.BlockValue

end
-- ==== Proof.RefValue.lean ====
module

public import proofs.«01_k».proof.Proof.Gen.ReferenceIdeal.Value
public import proofs.«01_k».proof.Proof.Scale

/-!
  The reference's values read at an index.
-/

@[expose] public section

set_option maxRecDepth 16384

noncomputable section

namespace Cert.RefValue

open Idealize.ShloMosaic
open Cert.ReferenceIdeal Cert.ReferenceIdeal.Gen
open Cert.Scale

/-- A block's element is the row's element at the block's offset. -/
theorem pay1_apply (x : Vec Ideal S2048x7168 .bf16) (r : Fin 2048) (b : Fin 56) (l : Fin 128) :
    k0_pay1 x (ix3 r b l) = x (ix2 r ⟨(b : ℕ) * 128 + (l : ℕ), by omega⟩) := by
  pointwise [k0_pay1]

/-- The scales of a 2048 × 56 array of block maxima. -/
def rs56 (v7 : FVec Ideal S2048x56 .f32) (v12 : FVec Ideal S2048x56x254 .f32) : FVec Ideal S2048x56 .f32 :=
  select (cmpf .olt v7 (broadcast S2048x56 (Scalar.ofBits .f32 0x00800000#32))) (broadcast S2048x56 (Scalar.ofBits .f32 0x3F800000#32))
    (multiReduction .minimumf [2] S2048x56
      (select (cmpf .ogt v12 (broadcastTo S2048x56x254 (shapeCast S2048x56x1 v7 shapeCasts_S2048x56_S2048x56x1) broadcasts_S2048x56x1_S2048x56x254))
        v12 (broadcast S2048x56x254 (Scalar.ofBits .f32 0x7F800000#32))) 0x7F800000#32 reduces_S2048x56x254_S2048x56 (.inl rfl) rfl)

/-- The powers of two tried. -/
def pws56 : FVec Ideal S2048x56x254 .f32 :=
  exp2 (sitofp .f32 (subi (iota .tc S2048x56x254 32 [2] iota_S2048x56x254_d2_w32) (broadcast S2048x56x254 126#32)))

/-- The block maxima over 448. -/
def am56 (u : FVec Ideal S2048x56x128 .f32) : FVec Ideal S2048x56 .f32 :=
  mulf (multiReduction .maximumf [2] S2048x56 (absf u) 0xFF800000#32 reduces_S2048x56x128_S2048x56 (.inl rfl) rfl)
    (broadcast S2048x56 (Scalar.ofBits .f32 0x3B124925#32))

/-- The activations' scales are the scales of their blocks' largest values. -/
theorem pay2_eq (x : Vec Ideal S2048x7168 .bf16) : k0_pay2 x = rs56 (am56 (k0_pay1 x)) pws56 := rfl

/-- The maximum over the last axis at an index, for the activations. -/
theorem redmax56_apply (u : FVec Ideal S2048x56x128 .f32) (r : Fin 2048) (b : Fin 56) :
    multiReduction .maximumf [2] S2048x56 u 0xFF800000#32 reduces_S2048x56x128_S2048x56 (.inl rfl) rfl (ix2 r b)
      = Finset.fold max (Ideal.ofBits FTy.f32 4286578688#32) (fun l : Fin 128 => u (ix3 r b l)) Finset.univ := by
  pointwise

/-- The product with 1/448 at an index, for the activations. -/
theorem mulc56_apply (w : FVec Ideal S2048x56 .f32) (r : Fin 2048) (b : Fin 56) :
    mulf w (broadcast S2048x56 (Scalar.ofBits .f32 0x3B124925#32)) (ix2 r b) = w (ix2 r b) * Ideal.ofBits FTy.f32 991054117#32 := by
  pointwise

/-- A block's largest absolute value over 448, for the activations. -/
theorem am56_apply (u : FVec Ideal S2048x56x128 .f32) (r : Fin 2048) (b : Fin 56) :
    am56 u (ix2 r b) = top fun l => u (ix3 r b l) := by
  unfold am56 top
  rw [mulc56_apply, redmax56_apply]
  pointwise

/-- The table of powers of two at an index, for the activations. -/
theorem pws56_apply (r : Fin 2048) (b : Fin 56) (k : Fin 254) :
    pws56 (ix3 r b k) = Ideal.exp2 (((((BitVec.ofNat 32 (k : ℕ) - 126#32).toInt : ℤ) : ℝ) : EReal)) := by
  pointwise [pws56]
  rfl

/-- The scale at an index is the reference's scalar scale, for the activations. -/
theorem rs56_apply (v7 : FVec Ideal S2048x56 .f32) (v12 : FVec Ideal S2048x56x254 .f32) (r : Fin 2048) (b : Fin 56) :
    rs56 v7 v12 (ix2 r b) = Scalar.select (BitVec.ofBool (decide (v7 (ix2 r b) < Ideal.ofBits FTy.f32 8388608#32))) 1
      (Finset.fold min (Ideal.ofBits FTy.f32 2139095040#32) (fun k : Fin 254 =>
        Scalar.select (BitVec.ofBool (decide (v7 (ix2 r b) < v12 (ix3 r b k)))) (v12 (ix3 r b k)) (Ideal.ofBits FTy.f32 2139095040#32)) Finset.univ) := by
  pointwise [rs56]

/-- The activations' scales. -/
theorem pay2_apply (x : Vec Ideal S2048x7168 .bf16) (r : Fin 2048) (b : Fin 56) :
    k0_pay2 x (ix2 r b) = rscale (top fun l => k0_pay1 x (ix3 r b l)) := by
  rw [pay2_eq, rs56_apply, am56_apply]
  simp only [pws56_apply]
  rfl

/-- The codes of a 2048 × 56 × 128 array under its scales. -/
def codes56 (u : FVec Ideal S2048x56x128 .f32) (s : FVec Ideal S2048x56 .f32) : FVec Ideal S2048x7168 .fp8e4m3 :=
  shapeCast S2048x7168 (truncf .fp8e4m3 (minimumf (broadcast S2048x56x128 (Scalar.ofBits .f32 0x43E00000#32))
    (maximumf (broadcast S2048x56x128 (Scalar.ofBits .f32 0xC3E00000#32))
      (mulf u (broadcastTo S2048x56x128 (shapeCast S2048x56x1 (divf (broadcast S2048x56 (Scalar.ofBits .f32 0x3F800000#32)) s)
        shapeCasts_S2048x56_S2048x56x1) broadcasts_S2048x56x1_S2048x56x128)))) bitsLt_fp8e4m3_f32) shapeCasts_S2048x56x128_S2048x7168

/-- A code at an index is its element over the scale, clipped to ±448. -/
theorem codes56_apply (u : FVec Ideal S2048x56x128 .f32) (s : FVec Ideal S2048x56 .f32) (r : Fin 2048) (j : Fin 7168) :
    codes56 u s (ix2 r j) = clip (u (ix3 r ⟨(j : ℕ) / 128, by omega⟩ ⟨(j : ℕ) % 128, by omega⟩)) (Ideal.div 1 (s (ix2 r ⟨(j : ℕ) / 128, by omega⟩))) := by
  pointwise [codes56]
  rfl

/-- The activations' codes are the codes of their blocks at their scales. -/
theorem pay3_eq (x : Vec Ideal S2048x7168 .bf16) : k0_pay3 x = codes56 (k0_pay1 x) (k0_pay2 x) := rfl

/-- The activations' codes. -/
theorem pay3_apply (x : Vec Ideal S2048x7168 .bf16) (r : Fin 2048) (j : Fin 7168) :
    k0_pay3 x (ix2 r j) = clip (x (ix2 r j)) (Ideal.div 1 (k0_pay2 x (ix2 r ⟨(j : ℕ) / 128, by omega⟩))) := by
  have hj : (⟨((⟨(j : ℕ) / 128, by omega⟩ : Fin 56) : ℕ) * 128 + ((⟨(j : ℕ) % 128, by omega⟩ : Fin 128) : ℕ), by dsimp only; omega⟩ : Fin 7168) = j := by
    apply Fin.ext
    dsimp only
    omega
  rw [pay3_eq, codes56_apply, pay1_apply, hj]

/-- The quantised activations. -/
theorem pay4_apply (x : Vec Ideal S2048x7168 .bf16) (r : Fin 2048) (j : Fin 7168) :
    k0_pay4 x (ix2 r j) = k0_pay3 x (ix2 r j) * k0_pay2 x (ix2 r ⟨(j : ℕ) / 128, by omega⟩) := by
  pointwise [k0_pay4]

/-- The weights' scales, one for each row and block of columns. -/
theorem pay5_apply (s : Vec Ideal S17x56 .f32) (r : Fin 2176) (b : Fin 56) :
    k0_pay5 s (ix2 r b) = s (ix2 ⟨(r : ℕ) / 128, by omega⟩ b) := by
  pointwise [k0_pay5]

/-- The product. -/
theorem pay6_apply (v40 : FVec Ideal S2048x7168 .bf16) (v45 : FVec Ideal S2176x56 .f32) (v47 : Vec Ideal S2112x7168 .fp8e4m3) (r : Fin 2048) (o : Fin 2112) :
    k0_pay6 v40 v45 v47 (ix2 r o) = ∑ k : Fin 7168, v40 (ix2 r k) * (v47 (ix2 o k) * v45 (ix2 ⟨(o : ℕ), by omega⟩ ⟨(k : ℕ) / 128, by omega⟩)) := by
  pointwise [k0_pay6, dot_S2048x7168_S2112x7168_S2048x2112_1_1_0_0_n_n]

/-- The normalised queries. -/
theorem pay7_apply (v40 : FVec Ideal S2048x7168 .bf16) (v45 : FVec Ideal S2176x56 .f32) (v47 : Vec Ideal S2112x7168 .fp8e4m3) (g : Vec Ideal S1x1536 .f32)
    (r : Fin 2048) (b : Fin 12) (l : Fin 128) :
    k0_pay7 v40 v45 v47 g (ix3 r b l) = k0_pay6 v40 v45 v47 (ix2 r ⟨(b : ℕ) * 128 + (l : ℕ), by omega⟩)
      * norm 1153433600#32 (∑ k : Fin 1536, k0_pay6 v40 v45 v47 (ix2 r ⟨(k : ℕ), by omega⟩) * k0_pay6 v40 v45 v47 (ix2 r ⟨(k : ℕ), by omega⟩))
      * g (ix2 0 ⟨(b : ℕ) * 128 + (l : ℕ), by omega⟩) := by
  pointwise [k0_pay7]
  rfl

/-- The scales of a 2048 × 12 array of block maxima. -/
def rs12 (v7 : FVec Ideal S2048x12 .f32) (v12 : FVec Ideal S2048x12x254 .f32) : FVec Ideal S2048x12 .f32 :=
  select (cmpf .olt v7 (broadcast S2048x12 (Scalar.ofBits .f32 0x00800000#32))) (broadcast S2048x12 (Scalar.ofBits .f32 0x3F800000#32))
    (multiReduction .minimumf [2] S2048x12
      (select (cmpf .ogt v12 (broadcastTo S2048x12x254 (shapeCast S2048x12x1 v7 shapeCasts_S2048x12_S2048x12x1) broadcasts_S2048x12x1_S2048x12x254))
        v12 (broadcast S2048x12x254 (Scalar.ofBits .f32 0x7F800000#32))) 0x7F800000#32 reduces_S2048x12x254_S2048x12 (.inl rfl) rfl)

/-- The powers of two tried. -/
def pws12 : FVec Ideal S2048x12x254 .f32 :=
  exp2 (sitofp .f32 (subi (iota .tc S2048x12x254 32 [2] iota_S2048x12x254_d2_w32) (broadcast S2048x12x254 126#32)))

/-- The block maxima over 448. -/
def am12 (u : FVec Ideal S2048x12x128 .f32) : FVec Ideal S2048x12 .f32 :=
  mulf (multiReduction .maximumf [2] S2048x12 (absf u) 0xFF800000#32 reduces_S2048x12x128_S2048x12 (.inl rfl) rfl)
    (broadcast S2048x12 (Scalar.ofBits .f32 0x3B124925#32))

/-- The queries' scales are the scales of their blocks' largest values. -/
theorem pay8_eq (v40 : FVec Ideal S2048x7168 .bf16) (v45 : FVec Ideal S2176x56 .f32) (v47 : Vec Ideal S2112x7168 .fp8e4m3) (g : Vec Ideal S1x1536 .f32) :
    k0_pay8 v40 v45 v47 g = rs12 (am12 (k0_pay7 v40 v45 v47 g)) pws12 := rfl

/-- The maximum over the last axis at an index, for the queries. -/
theorem redmax12_apply (u : FVec Ideal S2048x12x128 .f32) (r : Fin 2048) (b : Fin 12) :
    multiReduction .maximumf [2] S2048x12 u 0xFF800000#32 reduces_S2048x12x128_S2048x12 (.inl rfl) rfl (ix2 r b)
      = Finset.fold max (Ideal.ofBits FTy.f32 4286578688#32) (fun l : Fin 128 => u (ix3 r b l)) Finset.univ := by
  pointwise

/-- The product with 1/448 at an index, for the queries. -/
theorem mulc12_apply (w : FVec Ideal S2048x12 .f32) (r : Fin 2048) (b : Fin 12) :
    mulf w (broadcast S2048x12 (Scalar.ofBits .f32 0x3B124925#32)) (ix2 r b) = w (ix2 r b) * Ideal.ofBits FTy.f32 991054117#32 := by
  pointwise

/-- A block's largest absolute value over 448, for the queries. -/
theorem am12_apply (u : FVec Ideal S2048x12x128 .f32) (r : Fin 2048) (b : Fin 12) :
    am12 u (ix2 r b) = top fun l => u (ix3 r b l) := by
  unfold am12 top
  rw [mulc12_apply, redmax12_apply]
  pointwise

/-- The table of powers of two at an index, for the queries. -/
theorem pws12_apply (r : Fin 2048) (b : Fin 12) (k : Fin 254) :
    pws12 (ix3 r b k) = Ideal.exp2 (((((BitVec.ofNat 32 (k : ℕ) - 126#32).toInt : ℤ) : ℝ) : EReal)) := by
  pointwise [pws12]
  rfl

/-- The scale at an index is the reference's scalar scale, for the queries. -/
theorem rs12_apply (v7 : FVec Ideal S2048x12 .f32) (v12 : FVec Ideal S2048x12x254 .f32) (r : Fin 2048) (b : Fin 12) :
    rs12 v7 v12 (ix2 r b) = Scalar.select (BitVec.ofBool (decide (v7 (ix2 r b) < Ideal.ofBits FTy.f32 8388608#32))) 1
      (Finset.fold min (Ideal.ofBits FTy.f32 2139095040#32) (fun k : Fin 254 =>
        Scalar.select (BitVec.ofBool (decide (v7 (ix2 r b) < v12 (ix3 r b k)))) (v12 (ix3 r b k)) (Ideal.ofBits FTy.f32 2139095040#32)) Finset.univ) := by
  pointwise [rs12]

/-- The queries' scales. -/
theorem pay8_apply (v40 : FVec Ideal S2048x7168 .bf16) (v45 : FVec Ideal S2176x56 .f32) (v47 : Vec Ideal S2112x7168 .fp8e4m3) (g : Vec Ideal S1x1536 .f32)
    (r : Fin 2048) (b : Fin 12) :
    k0_pay8 v40 v45 v47 g (ix2 r b) = rscale (top fun l => k0_pay7 v40 v45 v47 g (ix3 r b l)) := by
  rw [pay8_eq, rs12_apply, am12_apply]
  simp only [pws12_apply]
  rfl

/-- The queries' codes. -/
theorem pay9_apply (u : FVec Ideal S2048x12x128 .f32) (s : FVec Ideal S2048x12 .f32) (r : Fin 2048) (j : Fin 1536) :
    k0_pay9 u s (ix2 r j) = clip (u (ix3 r ⟨(j : ℕ) / 128, by omega⟩ ⟨(j : ℕ) % 128, by omega⟩)) (Ideal.div 1 (s (ix2 r ⟨(j : ℕ) / 128, by omega⟩))) := by
  pointwise [k0_pay9]
  rfl

/-- The compressed columns, normalised. -/
theorem pay10_apply (v55 : FVec Ideal S2048x2112 .f32) (g : Vec Ideal S1x512 .f32) (r : Fin 2048) (j : Fin 512) :
    k0_pay10 v55 g (ix2 r j) = v55 (ix2 r ⟨1536 + (j : ℕ), by omega⟩)
      * norm 1140850688#32 (∑ k : Fin 512, v55 (ix2 r ⟨1536 + (k : ℕ), by omega⟩) * v55 (ix2 r ⟨1536 + (k : ℕ), by omega⟩)) * g (ix2 0 j) := by
  pointwise [k0_pay10]
  rfl

/-- The positional columns. -/
theorem pay11_apply (v55 : FVec Ideal S2048x2112 .f32) (r : Fin 2048) (j : Fin 64) :
    k0_pay11 v55 (ix2 r j) = v55 (ix2 r ⟨2048 + (j : ℕ), by omega⟩) := by
  pointwise [k0_pay11]

end Cert.RefValue

end
-- ==== Proof.Bound.lean ====
module

public import proofs.«01_k».proof.Pre_finite
public import proofs.«01_k».proof.Proof.Scale
public import Idealize.ShloMosaic.Lib.ReduceAll

/-!
  Under the precondition no block's largest value over 448 reaches 2¹²⁶, where the kernel's scale would leave the
  finite exponents.
-/

@[expose] public section

set_option maxRecDepth 16384

noncomputable section

namespace Cert.Bound

open Idealize.ShloMosaic
open Cert.Scale

/-- The absolute value of an extended real. -/
abbrev abs' (x : EReal) : EReal := FloatOps.absf (F := Ideal) (φ := .f32) x

/-- The absolute value is the larger of a value and its negation. -/
theorem abs'_def (x : EReal) : abs' x = max x (-x) := rfl

/-- The word of 1/448 as a rational. -/
theorem over448 : Ideal.ofBits .f32 991054117#32 = ((9586981 / 4294967296 : ℝ) : EReal) := by
  simp [Ideal.ofBits, Ideal.ieee, -EReal.coe_mul]
  norm_num

/-- The word of minus infinity. -/
theorem negInf : Ideal.ofBits .f32 4286578688#32 = ⊥ := by
  simp [Ideal.ofBits, Ideal.ieee]

/-- The word of 1536. -/
theorem d1536 : Ideal.ofBits .f32 1153433600#32 = ((1536 : ℝ) : EReal) := by
  simp [Ideal.ofBits, Ideal.ieee, -EReal.coe_mul]
  norm_num

/-- The word added under the root is a positive real. -/
theorem eps : ∃ e : ℝ, 0 < e ∧ Ideal.ofBits .f32 897988541#32 = (e : EReal) := by
  refine ⟨8796093 / 8796093022208, by norm_num, ?_⟩
  simp [Ideal.ofBits, Ideal.ieee, -EReal.coe_mul]
  norm_num

/-- A block whose elements are at most 2¹³⁴ in absolute value has its largest over 448 below 2¹²⁶. -/
theorem top_lt (f : Fin 128 → EReal) (h : ∀ l, abs' (f l) ≤ (((2 : ℝ) ^ 134 : ℝ) : EReal)) : top f < pw 253 := by
  have h1 : Finset.fold max (Ideal.ofBits .f32 4286578688#32) (fun l => FloatOps.absf (F := Ideal) (φ := .f32) (f l)) Finset.univ
      ≤ (((2 : ℝ) ^ 134 : ℝ) : EReal) := by
    rw [Finset.fold_max_le, negInf]
    exact ⟨bot_le, fun l _ => h l⟩
  have h2 : top f ≤ (((2 : ℝ) ^ 134 : ℝ) : EReal) * ((9586981 / 4294967296 : ℝ) : EReal) := by
    unfold top
    rw [over448]
    exact mul_le_mul_of_nonneg_right h1 (by exact_mod_cast (by norm_num : (0 : ℝ) ≤ 9586981 / 4294967296))
  refine lt_of_le_of_lt h2 ?_
  rw [pw_eq 253 (by decide) (by decide), ← EReal.coe_mul]
  refine EReal.coe_lt_coe_iff.mpr ?_
  norm_num

/-- A sum of reals read as extended reals. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A square is not negative. -/
theorem sq_nonneg' (y : EReal) : 0 ≤ y * y := by
  induction y with
  | bot => simp
  | top => simp
  | coe y => rw [← EReal.coe_mul]; exact_mod_cast mul_self_nonneg y

/-- A row divided by its root mean square is at most 64 in absolute value, so times a bounded weight it is bounded. -/
theorem normed_le (y : Fin 1536 → EReal) (g : EReal) (hg : abs' g ≤ (((2 : ℝ) ^ 128 : ℝ) : EReal)) (j : Fin 1536) :
    abs' (y j * Scale.norm 1153433600#32 (∑ k, y k * y k) * g) ≤ (((2 : ℝ) ^ 134 : ℝ) : EReal) := by
  obtain ⟨e, he, hE⟩ := eps
  unfold Scale.norm
  rw [d1536, hE, Ideal.div_coe (by norm_num)]
  by_cases h : ∃ k, y k * y k = ⊤
  · obtain ⟨k, hk⟩ := h
    have hS : ∑ k, y k * y k = ⊤ := by
      refine top_le_iff.mp ?_
      rw [← hk]
      exact Finset.single_le_sum (f := fun k => y k * y k) (fun i _ => sq_nonneg' _) (Finset.mem_univ k)
    rw [hS, EReal.top_mul_coe_of_pos (by norm_num), EReal.top_add_coe, Ideal.rsqrt_top, mul_zero, zero_mul, abs'_def]
    simp
  · have hr : ∀ k, ∃ Y : ℝ, y k = (Y : EReal) := fun k => by
      have hk : ¬ y k * y k = ⊤ := fun e => h ⟨k, e⟩
      revert hk
      induction y k with
      | bot => simp
      | top => simp
      | coe Y => exact fun _ => ⟨Y, rfl⟩
    choose Y hY using hr
    have hG : ∃ G : ℝ, g = (G : EReal) := by
      revert hg
      rw [abs'_def]
      induction g with
      | bot => intro hg; exact absurd (lt_of_le_of_lt (le_trans (le_max_right _ _) hg) (EReal.coe_lt_top _)) (by simp)
      | top => intro hg; exact absurd (lt_of_le_of_lt (le_trans (le_max_left _ _) hg) (EReal.coe_lt_top _)) (by simp)
      | coe G => exact fun _ => ⟨G, rfl⟩
    obtain ⟨G, rfl⟩ := hG
    have hS : ∑ k, y k * y k = ((∑ k, Y k * Y k : ℝ) : EReal) := by
      rw [← sum_coe]
      exact Finset.sum_congr rfl fun k _ => by rw [hY, EReal.coe_mul]
    have hn : 0 ≤ ∑ k, Y k * Y k := Finset.sum_nonneg fun k _ => mul_self_nonneg _
    have hj : Y j * Y j ≤ ∑ k, Y k * Y k :=
      Finset.single_le_sum (f := fun k => Y k * Y k) (fun i _ => mul_self_nonneg _) (Finset.mem_univ j)
    have hp : 0 < (∑ k, Y k * Y k) * (1 / 1536) + e := by positivity
    rw [hS, hY j, ← EReal.coe_mul, ← EReal.coe_add, Ideal.rsqrt_coe, if_neg (not_lt.mpr hp.le), if_neg hp.ne', ← EReal.coe_mul, ← EReal.coe_mul]
    generalize hT : (∑ k, Y k * Y k) * (1 / 1536) + e = T at hp
    have hT' : Y j * Y j ≤ 4096 * T := by rw [← hT]; linarith
    have h64 : |Y j * (Real.sqrt T)⁻¹| ≤ 64 := by
      rw [abs_mul, abs_of_pos (inv_pos.mpr (Real.sqrt_pos.mpr hp)), ← div_eq_mul_inv, div_le_iff₀ (Real.sqrt_pos.mpr hp)]
      refine abs_le_of_sq_le_sq ?_ (by positivity)
      rw [mul_pow, Real.sq_sqrt hp.le]
      nlinarith
    have hg' : |G| ≤ (2 : ℝ) ^ 128 := by
      rw [abs'_def] at hg
      have a := EReal.coe_le_coe_iff.mp (le_trans (le_max_left _ _) hg)
      have b := le_trans (le_max_right _ _) hg
      rw [← EReal.coe_neg] at b
      exact abs_le'.mpr ⟨a, EReal.coe_le_coe_iff.mp b⟩
    have hall : |Y j * (Real.sqrt T)⁻¹ * G| ≤ (2 : ℝ) ^ 134 := by
      rw [abs_mul]
      calc |Y j * (Real.sqrt T)⁻¹| * |G| ≤ 64 * (2 : ℝ) ^ 128 := mul_le_mul h64 hg' (abs_nonneg _) (by norm_num)
        _ = (2 : ℝ) ^ 134 := by norm_num
    rw [abs'_def, ← EReal.coe_neg]
    exact max_le (EReal.coe_le_coe_iff.mpr (abs_le'.mp hall).1) (EReal.coe_le_coe_iff.mpr (abs_le'.mp hall).2)

/-- The largest finite bf16 is at most 2¹²⁸. -/
theorem c16 : Ideal.ofBits .bf16 0x7F7F#16 ≤ (((2 : ℝ) ^ 128 : ℝ) : EReal) := by
  have h : Ideal.ofBits .bf16 0x7F7F#16 = ((255 / 128 * 2 ^ 127 : ℝ) : EReal) := by
    simp [Ideal.ofBits, Ideal.ieee, -EReal.coe_mul]
    norm_num
  rw [h]
  exact EReal.coe_le_coe_iff.mpr (by norm_num)

/-- The same number as an f32 is at most 2¹²⁸. -/
theorem c32 : Ideal.ofBits .f32 0x7F7F0000#32 ≤ (((2 : ℝ) ^ 128 : ℝ) : EReal) := by
  have h : Ideal.ofBits .f32 0x7F7F0000#32 = ((255 / 128 * 2 ^ 127 : ℝ) : EReal) := by
    simp [Ideal.ofBits, Ideal.ieee, -EReal.coe_mul]
    norm_num
  rw [h]
  exact EReal.coe_le_coe_iff.mpr (by norm_num)

/-- A conjunction of bits is 1 only if both are. -/
theorem and_one (a b : BitVec 1) (h : IntOp.andi a b = 1#1) : a = 1#1 ∧ b = 1#1 := by
  revert a b
  decide

/-- A comparison whose bit is 1 holds. -/
theorem le_of_cmp (x y : EReal) (h : BitVec.ofBool (decide (x ≤ y)) = 1#1) : x ≤ y := by
  by_contra hn
  rw [decide_eq_false hn] at h
  exact absurd h (by decide)

open Cert.Pre_finite in
/-- What the precondition says of the activations and of the queries' weights. -/
theorem of_pre [Cert.Pre_finite.Facts] (x : FVec Ideal S2x1024x7168 .bf16) (w : FVec Ideal S2112x7168 .fp8e4m3) (s : FVec Ideal S17x56 .f32)
    (g : FVec Ideal S1536 .f32) (k : FVec Ideal S512 .f32) (i : S_.Idx) (h : Cert.Pre_finite.fn x w s g k i = 1#1) :
    (∀ i, abs' (x i) ≤ (((2 : ℝ) ^ 128 : ℝ) : EReal)) ∧ ∀ i, abs' (g i) ≤ (((2 : ℝ) ^ 128 : ℝ) : EReal) := by
  dsimp only [Cert.Pre_finite.fn] at h
  obtain ⟨h1, h2⟩ := and_one _ _ h
  haveI : Subsingleton S_.Idx := ⟨fun a b => funext fun k => k.elim0⟩
  refine ⟨fun j => ?_, fun j => ?_⟩
  · exact (le_of_cmp _ _ (Host.reduce_andi_all _ _ _ _ i h1 j)).trans c16
  · exact (le_of_cmp _ _ (Host.reduce_andi_all _ _ _ _ i h2 j)).trans c32

end Cert.Bound

end
-- ==== Proof.Equation.lean ====
module

public import proofs.«01_k».proof.Proof.BlockValue
public import proofs.«01_k».proof.Proof.RefValue
public import proofs.«01_k».proof.Proof.Bound

/-!
  What the kernel computes at a grid point is the reference's, row for row.
-/

@[expose] public section

set_option maxRecDepth 16384

noncomputable section

namespace Cert.Equation

open Idealize.ShloMosaic
open Cert.Body Cert.BlockValue Cert.RefValue Cert.Bound
open Cert.ReferenceIdeal.Gen
open Cert.Scale (top kscale kinv rscale clip pw kscale_eq kinv_eq)

/-- A block's row among all rows. -/
abbrev row (t : ℕ) (ht : t < 8) (r : Fin 256) : Fin 2048 := ⟨256 * t + (r : ℕ), by omega⟩

variable (x : Ins Ideal) (t : ℕ) (ht : t < 8)
variable (X : Vec Ideal Cert.ReferenceIdeal.S2048x7168 .bf16) (W : Vec Ideal Cert.ReferenceIdeal.S2112x7168 .fp8e4m3)
  (S : Vec Ideal Cert.ReferenceIdeal.S17x56 .f32) (G : Vec Ideal Cert.ReferenceIdeal.S1x1536 .f32) (K : Vec Ideal Cert.ReferenceIdeal.S1x512 .f32)

/-- The kernel's point `t` reads rows `256 t …` of the activations and the other arguments whole; the activations and
    the queries' weights are bounded. -/
structure Reads : Prop where
  s : x.x1 = S
  rows : ∀ (r : Fin 256) (k : Fin 7168), x.x2 (ix2 r k) = X (ix2 (row t ht r) k)
  w : x.x3 = W
  g : x.x4 = G
  k : x.x5 = K
  bx : ∀ i, abs' (X i) ≤ (((2 : ℝ) ^ 128 : ℝ) : EReal)
  bg : ∀ i, abs' (G i) ≤ (((2 : ℝ) ^ 128 : ℝ) : EReal)

/-- The reference's product. -/
abbrev Y : FVec Ideal Cert.ReferenceIdeal.S2048x2112 .f32 := k0_pay6 (k0_pay4 X) (k0_pay5 S) W

/-- The reference's normalised queries. -/
abbrev Q : FVec Ideal Cert.ReferenceIdeal.S2048x12x128 .f32 := k0_pay7 (k0_pay4 X) (k0_pay5 S) W G

variable {x t ht X W S G K}

/-- 2¹²⁸ is at most 2¹³⁴. -/
theorem pow_le : (((2 : ℝ) ^ 128 : ℝ) : EReal) ≤ (((2 : ℝ) ^ 134 : ℝ) : EReal) := EReal.coe_le_coe_iff.mpr (by norm_num)

/-- A block of activations at a point is the reference's block in the same rows. -/
theorem xblk_eq (h : Reads x t ht X W S G K) (r : Fin 256) (b : ℕ) (hb : b < 56) (l : Fin 128) :
    xblk x (128 * b) (ix2 r l) = k0_pay1 X (ix3 (row t ht r) ⟨b, hb⟩ l) := by
  rw [xblk_apply x r l (128 * b) (by omega), h.rows, pay1_apply]
  refine congrArg (fun j => X (ix2 (row t ht r) j)) (Fin.ext ?_)
  dsimp only
  omega

/-- The two sides' largest activation of a block are the same. -/
theorem xtop (h : Reads x t ht X W S G K) (r : Fin 256) (b : ℕ) (hb : b < 56) :
    (top fun l => xblk x (128 * b) (ix2 r l)) = top fun l => k0_pay1 X (ix3 (row t ht r) ⟨b, hb⟩ l) :=
  congrArg top (funext fun l => xblk_eq h r b hb l)

/-- No block of activations reaches 2¹²⁶ over 448. -/
theorem xtop_lt (h : Reads x t ht X W S G K) (r : Fin 2048) (b : Fin 56) : (top fun l => k0_pay1 X (ix3 r b l)) < pw 253 := by
  refine top_lt _ fun l => ?_
  rw [pay1_apply]
  exact (h.bx _).trans pow_le

/-- The activations' scales. -/
theorem xscale_eq (h : Reads x t ht X W S G K) (r : Fin 256) (b : ℕ) (hb : b < 56) :
    scale (xblk x (128 * b)) (ix2 r 0) = k0_pay2 X (ix2 (row t ht r) ⟨b, hb⟩) := by
  rw [scale_apply, xtop h r b hb, kscale_eq _ (xtop_lt h _ _), pay2_apply]

/-- The activations' codes. -/
theorem xcode_eq (h : Reads x t ht X W S G K) (r : Fin 256) (j : Fin 7168) :
    codes (xblk x (128 * ((j : ℕ) / 128))) (ix2 r ⟨(j : ℕ) % 128, Nat.mod_lt _ (by decide)⟩) = k0_pay3 X (ix2 (row t ht r) j) := by
  have hb : (j : ℕ) / 128 < 56 := by omega
  rw [codes_apply, xtop h r _ hb, kinv_eq _ (xtop_lt h _ _), pay3_apply, pay2_apply, xblk_apply x r _ (128 * ((j : ℕ) / 128)) (by omega), h.rows]
  have e : (⟨128 * ((j : ℕ) / 128) + ((⟨(j : ℕ) % 128, Nat.mod_lt _ (by decide)⟩ : Fin 128) : ℕ), by dsimp only; omega⟩ : Fin 7168) = j := by
    apply Fin.ext
    dsimp only
    omega
  rw [e]

/-- The quantised activations. -/
theorem xrow_eq (h : Reads x t ht X W S G K) (r : Fin 256) (j : Fin 7168) : xrow x r (j : ℕ) = k0_pay4 X (ix2 (row t ht r) j) := by
  rw [xrow, part_apply, xcode_eq h, xscale_eq h r ((j : ℕ) / 128) (by omega), pay4_apply]

/-- The product. -/
theorem prod_eq (h : Reads x t ht X W S G K) (r : Fin 256) (o : Fin 2112) : prod x r o = Y X W S (ix2 (row t ht r) o) := by
  unfold Y
  rw [prod, pay6_apply]
  refine Finset.sum_congr rfl fun k _ => ?_
  rw [xrow_eq h, pay5_apply, h.w, h.s]

/-- A row's reciprocal root mean square. -/
theorem qrs_eq (h : Reads x t ht X W S G K) (r : Fin 256) :
    qrs x (ix2 r 0) = Scale.norm 1153433600#32 (∑ k : Fin 1536, Y X W S (ix2 (row t ht r) ⟨(k : ℕ), by omega⟩) * Y X W S (ix2 (row t ht r) ⟨(k : ℕ), by omega⟩)) := by
  rw [qrs_apply]
  refine congrArg _ (Finset.sum_congr rfl fun k _ => ?_)
  rw [prod_eq h]

/-- The normalised queries. -/
theorem qblk_eq (h : Reads x t ht X W S G K) (r : Fin 256) (b : ℕ) (hb : b < 12) (l : Fin 128) :
    qblk x (128 * b) (ix2 r l) = Q X W S G (ix3 (row t ht r) ⟨b, hb⟩ l) := by
  rw [qblk_apply x r l (128 * b) (by omega), qrs_eq h, prod_eq h, h.g]
  unfold Q
  rw [pay7_apply]
  have e : ∀ (n : ℕ) (h1 : 128 * b + (l : ℕ) < n) (h2 : b * 128 + (l : ℕ) < n), (⟨128 * b + (l : ℕ), h1⟩ : Fin n) = ⟨b * 128 + (l : ℕ), h2⟩ :=
    fun n _ _ => Fin.ext (by dsimp only; omega)
  rw [e 2112 (by omega) (by omega), e 1536 (by omega) (by omega)]

/-- The two sides' largest query of a block are the same. -/
theorem qtop (h : Reads x t ht X W S G K) (r : Fin 256) (b : ℕ) (hb : b < 12) :
    (top fun l => qblk x (128 * b) (ix2 r l)) = top fun l => Q X W S G (ix3 (row t ht r) ⟨b, hb⟩ l) :=
  congrArg top (funext fun l => qblk_eq h r b hb l)

/-- No block of normalised queries reaches 2¹²⁶ over 448. -/
theorem qtop_lt (h : Reads x t ht X W S G K) (r : Fin 2048) (b : Fin 12) : (top fun l => Q X W S G (ix3 r b l)) < pw 253 := by
  refine top_lt _ fun l => ?_
  unfold Q
  rw [pay7_apply]
  exact normed_le (fun k => Y X W S (ix2 r ⟨(k : ℕ), by omega⟩)) _ (h.bg _) ⟨(b : ℕ) * 128 + (l : ℕ), by omega⟩

/-- The queries' scales. -/
theorem qscale_eq (h : Reads x t ht X W S G K) (r : Fin 256) (b : ℕ) (hb : b < 12) :
    scale (qblk x (128 * b)) (ix2 r 0) = k0_pay8 (k0_pay4 X) (k0_pay5 S) W G (ix2 (row t ht r) ⟨b, hb⟩) := by
  rw [scale_apply, qtop h r b hb, kscale_eq _ (qtop_lt h _ _), pay8_apply]

/-- The queries' codes. -/
theorem qcode_eq (h : Reads x t ht X W S G K) (r : Fin 256) (j : Fin 1536) :
    codes (qblk x (128 * ((j : ℕ) / 128))) (ix2 r ⟨(j : ℕ) % 128, Nat.mod_lt _ (by decide)⟩)
      = k0_pay9 (Q X W S G) (k0_pay8 (k0_pay4 X) (k0_pay5 S) W G) (ix2 (row t ht r) j) := by
  have hb : (j : ℕ) / 128 < 12 := by omega
  rw [codes_apply, qtop h r _ hb, kinv_eq _ (qtop_lt h _ _), pay9_apply, pay8_apply, qblk_eq h r _ hb]

/-! ## The six results at a grid point -/

/-- The activations' codes at a point are the reference's, in the point's rows. -/
theorem XC_eq (h : Reads x t ht X W S G K) (r : Fin 256) (j : Fin 7168) : XC x (ix2 r j) = k0_pay3 X (ix2 (row t ht r) j) := by
  rw [← xcode_eq h]
  unfold XC
  exact congrArg (codes (xblk x (128 * ((j : ℕ) / 128)))) (pair_eq r (⟨(j : ℕ) % 128, Nat.mod_lt _ (by decide)⟩ : Fin 128))

/-- So are the activations' scales. -/
theorem xsV_eq (h : Reads x t ht X W S G K) (r : Fin 256) (b : Fin 56) : xsV x 56 (ix2 r b) = k0_pay2 X (ix2 (row t ht r) b) := by
  rw [xs_apply x r b 56 b.isLt le_rfl, xscale_eq h r b b.isLt]

/-- So are the queries' codes. -/
theorem QC_eq (h : Reads x t ht X W S G K) (r : Fin 256) (j : Fin 1536) :
    QC x (ix2 r j) = k0_pay9 (Q X W S G) (k0_pay8 (k0_pay4 X) (k0_pay5 S) W G) (ix2 (row t ht r) j) := by
  rw [← qcode_eq h]
  unfold QC
  exact congrArg (codes (qblk x (128 * ((j : ℕ) / 128)))) (pair_eq r (⟨(j : ℕ) % 128, Nat.mod_lt _ (by decide)⟩ : Fin 128))

/-- So are the queries' scales. -/
theorem qsV_eq (h : Reads x t ht X W S G K) (r : Fin 256) (b : Fin 12) :
    qsV x 12 (ix2 r b) = k0_pay8 (k0_pay4 X) (k0_pay5 S) W G (ix2 (row t ht r) b) := by
  rw [qs_apply x r b 12 b.isLt le_rfl, qscale_eq h r b b.isLt]

/-- So are the normalised keys and values. -/
theorem kvV_eq (h : Reads x t ht X W S G K) (r : Fin 256) (j : Fin 512) : kvV x (ix2 r j) = k0_pay10 (Y X W S) K (ix2 (row t ht r) j) := by
  rw [kv_apply, pay10_apply, prod_eq h, h.k]
  refine congrArg (fun z => _ * Scale.norm _ z * _) (Finset.sum_congr rfl fun k _ => ?_)
  rw [prod_eq h]

/-- So are the last 64 columns. -/
theorem peV_eq (h : Reads x t ht X W S G K) (r : Fin 256) (j : Fin 64) : peV x (ix2 r j) = k0_pay11 (Y X W S) (ix2 (row t ht r) j) := by
  rw [pe_apply, pay11_apply, prod_eq h]

end Cert.Equation

end
-- ==== Proof.KernelArrays.lean ====
module

public import proofs.«01_k».proof.Proof.KernelIdealRun
public import proofs.«01_k».proof.Proof.Equation
public import Idealize.ShloMosaic.Lib.Pipeline.ValueKit

/-!
  The kernel's final arrays: each is the reference's function of the arguments, its rows filled 256 at a time.
-/

@[expose] public section

set_option maxRecDepth 16384

noncomputable section

namespace Cert.KernelIdeal.Arrays

open Idealize.ShloMosaic Idealize.ShloMosaic.TcCoe
open Idealize.ShloMosaic.Pipeline (Dat Cfg Window)
open Cert.KernelIdeal.Gen Cert.KernelIdeal.Run
open Cert.Body Cert.BlockValue Cert.Equation Cert.Bound
open Cert.ReferenceIdeal.Gen (k0_pay2 k0_pay3 k0_pay4 k0_pay5 k0_pay6 k0_pay8 k0_pay9 k0_pay10 k0_pay11)

variable (m : (ℓ : Loc nD τ sig) → Buf (Elt Ideal) ℓ)

/-- There are eight points. -/
theorem lt8 (t : Fin cfg0.N) : (t : ℕ) < 8 := t.isLt

/-- The activations as 2048 rows. -/
theorem V_v0 (c : Dev nD) : V m c main_v0 = shapeCast S2048x7168 (m ((c : Thread nD τ).loc main_arg0)) shapeCasts_S2x1024x7168_S2048x7168 := rfl

/-- The queries' weights as one row. -/
theorem V_v1 (c : Dev nD) : V m c main_v1 = shapeCast S1x1536 (m ((c : Thread nD τ).loc main_arg3)) shapeCasts_S1536_S1x1536 := rfl

/-- The keys' and values' weights as one row. -/
theorem V_v2 (c : Dev nD) : V m c main_v2 = shapeCast S1x512 (m ((c : Thread nD τ).loc main_arg4)) shapeCasts_S512_S1x512 := rfl

/-- Window 0 is its whole array at every point. -/
theorem iblk0 (c : Dev nD) (t : Fin cfg0.N) : iblk m c 0 t = V m c main_arg2 := by
  have e : ∀ (t : Fin cfg0.N) (a : Fin 2), win0_0.index t a = 0 := by decide +kernel
  funext y
  blk_simp [iblk]
  refine congrArg (V m c main_arg2) (funext fun a => Fin.ext ?_)
  blk_simp
  fin_cases a <;> simp only [e, Nat.zero_mul, Nat.zero_add]

/-- Window 2 is its whole array at every point. -/
theorem iblk2 (c : Dev nD) (t : Fin cfg0.N) : iblk m c 2 t = V m c main_arg1 := by
  have e : ∀ (t : Fin cfg0.N) (a : Fin 2), win0_2.index t a = 0 := by decide +kernel
  funext y
  blk_simp [iblk]
  refine congrArg (V m c main_arg1) (funext fun a => Fin.ext ?_)
  blk_simp
  fin_cases a <;> simp only [e, Nat.zero_mul, Nat.zero_add]

/-- Window 3 is its whole array at every point. -/
theorem iblk3 (c : Dev nD) (t : Fin cfg0.N) : iblk m c 3 t = V m c main_v1 := by
  have e : ∀ (t : Fin cfg0.N) (a : Fin 2), win0_3.index t a = 0 := by decide +kernel
  funext y
  blk_simp [iblk]
  refine congrArg (V m c main_v1) (funext fun a => Fin.ext ?_)
  blk_simp
  fin_cases a <;> simp only [e, Nat.zero_mul, Nat.zero_add]

/-- Window 4 is its whole array at every point. -/
theorem iblk4 (c : Dev nD) (t : Fin cfg0.N) : iblk m c 4 t = V m c main_v2 := by
  have e : ∀ (t : Fin cfg0.N) (a : Fin 2), win0_4.index t a = 0 := by decide +kernel
  funext y
  blk_simp [iblk]
  refine congrArg (V m c main_v2) (funext fun a => Fin.ext ?_)
  blk_simp
  fin_cases a <;> simp only [e, Nat.zero_mul, Nat.zero_add]

/-- Window 1 is 256 rows of its array. -/
theorem iblk1 (c : Dev nD) (t : Fin cfg0.N) (r : Fin 256) (k : Fin 7168) : iblk m c 1 t (ix2 r k) = V m c main_v0 (ix2 (row t (lt8 t) r) k) := by
  have e : ∀ (t : Fin cfg0.N), win0_1.index t = ![(t : ℕ), 0] := by decide +kernel
  blk_simp [iblk]
  refine congrArg (V m c main_v0) ?_
  refine idx_ext2 ?_ ?_
  · blk_simp [e]
    show (t : ℕ) * 256 + (r : ℕ) = 256 * (t : ℕ) + (r : ℕ)
    omega
  · blk_simp [e]

variable (c : Dev nD) (bx : ∀ i, abs' (V m c main_v0 i) ≤ (((2 : ℝ) ^ 128 : ℝ) : EReal)) (bg : ∀ i, abs' (V m c main_v1 i) ≤ (((2 : ℝ) ^ 128 : ℝ) : EReal))

/-- What the body reads at a point, as rows of the arrays. -/
theorem reads (t : Fin cfg0.N) (bx : ∀ i, abs' (V m c main_v0 i) ≤ (((2 : ℝ) ^ 128 : ℝ) : EReal)) (bg : ∀ i, abs' (V m c main_v1 i) ≤ (((2 : ℝ) ^ 128 : ℝ) : EReal)) :
    Reads (ins m c t) t (lt8 t) (V m c main_v0) (V m c main_arg1) (V m c main_arg2) (V m c main_v1) (V m c main_v2) where
  s := iblk0 m c t
  rows := fun r k => iblk1 m c t r k
  w := iblk2 m c t
  g := iblk3 m c t
  k := iblk4 m c t
  bx := bx
  bg := bg

include bx bg

/-- The codes of the queries at the end, as a function of the arguments' arrays. -/
theorem final5 : (dats m 0 c).arrAt 5 cfg0.N = k0_pay9 (Q (V m c main_v0) (V m c main_arg1) (V m c main_arg2) (V m c main_v1)) (k0_pay8 (k0_pay4 (V m c main_v0)) (k0_pay5 (V m c main_arg2)) (V m c main_arg1) (V m c main_v1)) := by
  have e : ∀ (t : Fin cfg0.N), win0_5.index t = ![(t : ℕ), 0] := by decide +kernel
  refine (dats m 0 c).arrAt_eq_of_covers 5 _ (by decide +kernel) fun t hf y => ?_
  obtain ⟨r, j, rfl⟩ : ∃ (r : Fin 256) (j : Fin 1536), y = ix2 r j := ⟨y 0, y 1, idx_ext2 rfl rfl⟩
  blk_simp
  rw [after0_5]
  refine (QC_eq (reads m c t bx bg) r j).trans (congrArg _ ?_)
  refine idx_ext2 ?_ ?_
  · blk_simp [e]
    show 256 * (t : ℕ) + (r : ℕ) = (t : ℕ) * 256 + (r : ℕ)
    omega
  · blk_simp [e]

/-- The scales of the queries at the end, as a function of the arguments' arrays. -/
theorem final6 : (dats m 0 c).arrAt 6 cfg0.N = k0_pay8 (k0_pay4 (V m c main_v0)) (k0_pay5 (V m c main_arg2)) (V m c main_arg1) (V m c main_v1) := by
  have e : ∀ (t : Fin cfg0.N), win0_6.index t = ![(t : ℕ), 0] := by decide +kernel
  refine (dats m 0 c).arrAt_eq_of_covers 6 _ (by decide +kernel) fun t hf y => ?_
  obtain ⟨r, j, rfl⟩ : ∃ (r : Fin 256) (j : Fin 12), y = ix2 r j := ⟨y 0, y 1, idx_ext2 rfl rfl⟩
  blk_simp
  rw [after0_6]
  refine (qsV_eq (reads m c t bx bg) r j).trans (congrArg _ ?_)
  refine idx_ext2 ?_ ?_
  · blk_simp [e]
    show 256 * (t : ℕ) + (r : ℕ) = (t : ℕ) * 256 + (r : ℕ)
    omega
  · blk_simp [e]

/-- The normalised keys and values at the end, as a function of the arguments' arrays. -/
theorem final7 : (dats m 0 c).arrAt 7 cfg0.N = k0_pay10 (Y (V m c main_v0) (V m c main_arg1) (V m c main_arg2)) (V m c main_v2) := by
  have e : ∀ (t : Fin cfg0.N), win0_7.index t = ![(t : ℕ), 0] := by decide +kernel
  refine (dats m 0 c).arrAt_eq_of_covers 7 _ (by decide +kernel) fun t hf y => ?_
  obtain ⟨r, j, rfl⟩ : ∃ (r : Fin 256) (j : Fin 512), y = ix2 r j := ⟨y 0, y 1, idx_ext2 rfl rfl⟩
  blk_simp
  rw [after0_7]
  refine (kvV_eq (reads m c t bx bg) r j).trans (congrArg _ ?_)
  refine idx_ext2 ?_ ?_
  · blk_simp [e]
    show 256 * (t : ℕ) + (r : ℕ) = (t : ℕ) * 256 + (r : ℕ)
    omega
  · blk_simp [e]

/-- The rotary part at the end, as a function of the arguments' arrays. -/
theorem final8 : (dats m 0 c).arrAt 8 cfg0.N = k0_pay11 (Y (V m c main_v0) (V m c main_arg1) (V m c main_arg2)) := by
  have e : ∀ (t : Fin cfg0.N), win0_8.index t = ![(t : ℕ), 0] := by decide +kernel
  refine (dats m 0 c).arrAt_eq_of_covers 8 _ (by decide +kernel) fun t hf y => ?_
  obtain ⟨r, j, rfl⟩ : ∃ (r : Fin 256) (j : Fin 64), y = ix2 r j := ⟨y 0, y 1, idx_ext2 rfl rfl⟩
  blk_simp
  rw [after0_8]
  refine (peV_eq (reads m c t bx bg) r j).trans (congrArg _ ?_)
  refine idx_ext2 ?_ ?_
  · blk_simp [e]
    show 256 * (t : ℕ) + (r : ℕ) = (t : ℕ) * 256 + (r : ℕ)
    omega
  · blk_simp [e]

/-- The codes of the activations at the end, as a function of the arguments' arrays. -/
theorem final9 : (dats m 0 c).arrAt 9 cfg0.N = k0_pay3 (V m c main_v0) := by
  have e : ∀ (t : Fin cfg0.N), win0_9.index t = ![(t : ℕ), 0] := by decide +kernel
  refine (dats m 0 c).arrAt_eq_of_covers 9 _ (by decide +kernel) fun t hf y => ?_
  obtain ⟨r, j, rfl⟩ : ∃ (r : Fin 256) (j : Fin 7168), y = ix2 r j := ⟨y 0, y 1, idx_ext2 rfl rfl⟩
  blk_simp
  rw [after0_9]
  refine (XC_eq (reads m c t bx bg) r j).trans (congrArg _ ?_)
  refine idx_ext2 ?_ ?_
  · blk_simp [e]
    show 256 * (t : ℕ) + (r : ℕ) = (t : ℕ) * 256 + (r : ℕ)
    omega
  · blk_simp [e]

/-- The scales of the activations at the end, as a function of the arguments' arrays. -/
theorem final10 : (dats m 0 c).arrAt 10 cfg0.N = k0_pay2 (V m c main_v0) := by
  have e : ∀ (t : Fin cfg0.N), win0_10.index t = ![(t : ℕ), 0] := by decide +kernel
  refine (dats m 0 c).arrAt_eq_of_covers 10 _ (by decide +kernel) fun t hf y => ?_
  obtain ⟨r, j, rfl⟩ : ∃ (r : Fin 256) (j : Fin 56), y = ix2 r j := ⟨y 0, y 1, idx_ext2 rfl rfl⟩
  blk_simp
  rw [after0_10]
  refine (xsV_eq (reads m c t bx bg) r j).trans (congrArg _ ?_)
  refine idx_ext2 ?_ ?_
  · blk_simp [e]
    show 256 * (t : ℕ) + (r : ℕ) = (t : ℕ) * 256 + (r : ℕ)
    omega
  · blk_simp [e]

end Cert.KernelIdeal.Arrays

end
-- ==== Proof.ReferenceArrays.lean ====
module

public import proofs.«01_k».proof.Proof.Gen.ReferenceIdeal.Value
public import Idealize.ShloMosaic.Lib.Pipeline.ValueKit

/-!
  The reference's final arrays, as functions of its arguments.
-/

@[expose] public section

set_option maxRecDepth 16384

noncomputable section

namespace Cert.ReferenceIdeal.Arrays

open Idealize.ShloMosaic Idealize.ShloMosaic.TcCoe
open Idealize.ShloMosaic.Pipeline (Dat Cfg Window)
open Cert.ReferenceIdeal Cert.ReferenceIdeal.Gen

variable {F : FTy → Type} [FloatOps F]
variable (m : (ℓ : Loc nD τ sig) → Buf (Elt F) ℓ)

/-- The one grid point. -/
abbrev t0 : Fin cfg0.N := ⟨0, by decide⟩

/-- The first window is its whole array. -/
theorem iblk0 (c : Dev nD) : iblk m c 0 t0 = V m c main_v0 := by
  have e : ∀ (t : Fin cfg0.N) (a : Fin 2), win0_0.index t a = 0 := by decide +kernel
  funext y
  blk_simp [iblk]
  refine congrArg (V m c main_v0) (funext fun a => Fin.ext ?_)
  blk_simp
  fin_cases a <;> simp only [e, Nat.zero_mul, Nat.zero_add]

/-- So is the second. -/
theorem iblk1 (c : Dev nD) : iblk m c 1 t0 = V m c main_arg1 := by
  have e : ∀ (t : Fin cfg0.N) (a : Fin 2), win0_1.index t a = 0 := by decide +kernel
  funext y
  blk_simp [iblk]
  refine congrArg (V m c main_arg1) (funext fun a => Fin.ext ?_)
  blk_simp
  fin_cases a <;> simp only [e, Nat.zero_mul, Nat.zero_add]

/-- So is the third. -/
theorem iblk2 (c : Dev nD) : iblk m c 2 t0 = V m c main_arg2 := by
  have e : ∀ (t : Fin cfg0.N) (a : Fin 2), win0_2.index t a = 0 := by decide +kernel
  funext y
  blk_simp [iblk]
  refine congrArg (V m c main_arg2) (funext fun a => Fin.ext ?_)
  blk_simp
  fin_cases a <;> simp only [e, Nat.zero_mul, Nat.zero_add]

/-- So is the fourth. -/
theorem iblk3 (c : Dev nD) : iblk m c 3 t0 = V m c main_v1 := by
  have e : ∀ (t : Fin cfg0.N) (a : Fin 2), win0_3.index t a = 0 := by decide +kernel
  funext y
  blk_simp [iblk]
  refine congrArg (V m c main_v1) (funext fun a => Fin.ext ?_)
  blk_simp
  fin_cases a <;> simp only [e, Nat.zero_mul, Nat.zero_add]

/-- So is the fifth. -/
theorem iblk4 (c : Dev nD) : iblk m c 4 t0 = V m c main_v2 := by
  have e : ∀ (t : Fin cfg0.N) (a : Fin 2), win0_4.index t a = 0 := by decide +kernel
  funext y
  blk_simp [iblk]
  refine congrArg (V m c main_v2) (funext fun a => Fin.ext ?_)
  blk_simp
  fin_cases a <;> simp only [e, Nat.zero_mul, Nat.zero_add]

/-- The queries' codes at the end, as a function of the arguments' arrays. -/
theorem final5 (c : Dev nD) : (dats m 0 c).arrAt 5 cfg0.N = k0_pay9 (k0_pay7 (k0_pay4 (V m c main_v0)) (k0_pay5 (V m c main_arg2)) (V m c main_arg1) (V m c main_v1)) (k0_pay8 (k0_pay4 (V m c main_v0)) (k0_pay5 (V m c main_arg2)) (V m c main_arg1) (V m c main_v1)) := by
  refine (dats m 0 c).arrAt_eq_of_after_last 5 t0 (by decide +kernel) _ fun j => ?_
  blk_simp
  rw [after0_5]
  frame_out
  unfold k0_pay15 k0_pay13 k0_pay12
  frame_out
  rw [iblk0, iblk1, iblk2, iblk3]

/-- The queries' scales at the end. -/
theorem final6 (c : Dev nD) : (dats m 0 c).arrAt 6 cfg0.N = k0_pay8 (k0_pay4 (V m c main_v0)) (k0_pay5 (V m c main_arg2)) (V m c main_arg1) (V m c main_v1) := by
  refine (dats m 0 c).arrAt_eq_of_after_last 6 t0 (by decide +kernel) _ fun j => ?_
  blk_simp
  rw [after0_6]
  frame_out
  unfold k0_pay15 k0_pay13 k0_pay12
  frame_out
  rw [iblk0, iblk1, iblk2, iblk3]

/-- The normalised keys and values at the end. -/
theorem final7 (c : Dev nD) : (dats m 0 c).arrAt 7 cfg0.N = k0_pay10 (k0_pay6 (k0_pay4 (V m c main_v0)) (k0_pay5 (V m c main_arg2)) (V m c main_arg1)) (V m c main_v2) := by
  refine (dats m 0 c).arrAt_eq_of_after_last 7 t0 (by decide +kernel) _ fun j => ?_
  blk_simp
  rw [after0_7]
  frame_out
  unfold k0_pay14 k0_pay13 k0_pay12
  frame_out
  rw [iblk0, iblk1, iblk2, iblk4]

/-- The last 64 columns at the end. -/
theorem final8 (c : Dev nD) : (dats m 0 c).arrAt 8 cfg0.N = k0_pay11 (k0_pay6 (k0_pay4 (V m c main_v0)) (k0_pay5 (V m c main_arg2)) (V m c main_arg1)) := by
  refine (dats m 0 c).arrAt_eq_of_after_last 8 t0 (by decide +kernel) _ fun j => ?_
  blk_simp
  rw [after0_8]
  frame_out
  unfold k0_pay14 k0_pay13 k0_pay12
  frame_out
  rw [iblk0, iblk1, iblk2]

/-- The activations' codes at the end. -/
theorem final9 (c : Dev nD) : (dats m 0 c).arrAt 9 cfg0.N = k0_pay3 (V m c main_v0) := by
  refine (dats m 0 c).arrAt_eq_of_after_last 9 t0 (by decide +kernel) _ fun j => ?_
  blk_simp
  rw [after0_9]
  frame_out
  rw [iblk0]

/-- The activations' scales at the end. -/
theorem final10 (c : Dev nD) : (dats m 0 c).arrAt 10 cfg0.N = k0_pay2 (V m c main_v0) := by
  refine (dats m 0 c).arrAt_eq_of_after_last 10 t0 (by decide +kernel) _ fun j => ?_
  blk_simp
  rw [after0_10]
  frame_out
  rw [iblk0]

/-- The activations as 2048 rows. -/
theorem V_v0 (c : Dev nD) : V m c main_v0 = shapeCast S2048x7168 (m ((c : Thread nD τ).loc main_arg0)) shapeCasts_S2x1024x7168_S2048x7168 := rfl

/-- The queries' weights as one row. -/
theorem V_v1 (c : Dev nD) : V m c main_v1 = shapeCast S1x1536 (m ((c : Thread nD τ).loc main_arg3)) shapeCasts_S1536_S1x1536 := rfl

/-- The keys' and values' weights as one row. -/
theorem V_v2 (c : Dev nD) : V m c main_v2 = shapeCast S1x512 (m ((c : Thread nD τ).loc main_arg4)) shapeCasts_S512_S1x512 := rfl

end Cert.ReferenceIdeal.Arrays

end
-- ==== Proof.Agree.lean ====
module

public import proofs.«01_k».proof.Defs
public import proofs.«01_k».proof.Proof.KernelArrays
public import proofs.«01_k».proof.Proof.ReferenceArrays
public import proofs.«01_k».proof.Proof.Gen.Pre_finite

/-!
  From memories that agree on the arguments and meet the precondition, the two programs' final arrays are equal.
-/

@[expose] public section

set_option maxRecDepth 16384

noncomputable section

namespace Cert.Agree

open Idealize.ShloMosaic Idealize.ShloMosaic.TcCoe
open Cert.Bound
open Cert.ReferenceIdeal.Gen (k0_pay2 k0_pay3 k0_pay4 k0_pay5 k0_pay6 k0_pay7 k0_pay8 k0_pay9 k0_pay10 k0_pay11)

attribute [local instance] Cert.Pre_finite.Gen.facts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories agree on the arguments of one device. -/
structure Args : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m' c}

/-- The activations as rows are the same in both programs. -/
theorem v0 (h : Args m m' c) : (Cert.ReferenceIdeal.Gen.V m' c Cert.ReferenceIdeal.main_v0 : Vec Ideal Cert.ReferenceIdeal.S2048x7168 .bf16) = Cert.KernelIdeal.Gen.V m c Cert.KernelIdeal.main_v0 :=
  (Cert.ReferenceIdeal.Arrays.V_v0 m' c).trans ((congrArg (fun z : Vec Ideal Cert.ReferenceIdeal.S2x1024x7168 .bf16 => shapeCast Cert.ReferenceIdeal.S2048x7168 z Cert.ReferenceIdeal.Gen.facts.shapeCasts_S2x1024x7168_S2048x7168) h.a0).trans (Cert.KernelIdeal.Arrays.V_v0 m c).symm)

/-- The queries' weights as one row are the same in both programs. -/
theorem v1 (h : Args m m' c) : (Cert.ReferenceIdeal.Gen.V m' c Cert.ReferenceIdeal.main_v1 : Vec Ideal Cert.ReferenceIdeal.S1x1536 .f32) = Cert.KernelIdeal.Gen.V m c Cert.KernelIdeal.main_v1 :=
  (Cert.ReferenceIdeal.Arrays.V_v1 m' c).trans ((congrArg (fun z : Vec Ideal Cert.ReferenceIdeal.S1536 .f32 => shapeCast Cert.ReferenceIdeal.S1x1536 z Cert.ReferenceIdeal.Gen.facts.shapeCasts_S1536_S1x1536) h.a3).trans (Cert.KernelIdeal.Arrays.V_v1 m c).symm)

/-- The compressed columns' weights as one row are the same in both programs. -/
theorem v2 (h : Args m m' c) : (Cert.ReferenceIdeal.Gen.V m' c Cert.ReferenceIdeal.main_v2 : Vec Ideal Cert.ReferenceIdeal.S1x512 .f32) = Cert.KernelIdeal.Gen.V m c Cert.KernelIdeal.main_v2 :=
  (Cert.ReferenceIdeal.Arrays.V_v2 m' c).trans ((congrArg (fun z : Vec Ideal Cert.ReferenceIdeal.S512 .f32 => shapeCast Cert.ReferenceIdeal.S1x512 z Cert.ReferenceIdeal.Gen.facts.shapeCasts_S512_S1x512) h.a4).trans (Cert.KernelIdeal.Arrays.V_v2 m c).symm)

/-- So are the weights. -/
theorem w (h : Args m m' c) : (Cert.ReferenceIdeal.Gen.V m' c Cert.ReferenceIdeal.main_arg1 : Vec Ideal Cert.ReferenceIdeal.S2112x7168 .fp8e4m3) = Cert.KernelIdeal.Gen.V m c Cert.KernelIdeal.main_arg1 :=
  (Cert.ReferenceIdeal.Gen.V_main_arg1 m' c).trans (h.a1.trans (Cert.KernelIdeal.Gen.V_main_arg1 m c).symm)

/-- So are the weights' scales. -/
theorem s (h : Args m m' c) : (Cert.ReferenceIdeal.Gen.V m' c Cert.ReferenceIdeal.main_arg2 : Vec Ideal Cert.ReferenceIdeal.S17x56 .f32) = Cert.KernelIdeal.Gen.V m c Cert.KernelIdeal.main_arg2 :=
  (Cert.ReferenceIdeal.Gen.V_main_arg2 m' c).trans (h.a2.trans (Cert.KernelIdeal.Gen.V_main_arg2 m c).symm)

/-- The precondition bounds the activations' rows. -/
theorem bx (hp : Cert.Pre_KernelIdeal_finite m) (i : Cert.ReferenceIdeal.S2048x7168.Idx) : abs' ((Cert.KernelIdeal.Gen.V m c Cert.KernelIdeal.main_v0 : Vec Ideal Cert.ReferenceIdeal.S2048x7168 .bf16) i) ≤ (((2 : ℝ) ^ 128 : ℝ) : EReal) := by
  have h := (of_pre _ _ _ _ _ (fun k => k.elim0) (congrFun (hp c) _)).1
  rw [Cert.KernelIdeal.Arrays.V_v0]
  exact h _

/-- The precondition bounds the queries' weights. -/
theorem bg (hp : Cert.Pre_KernelIdeal_finite m) (i : Cert.ReferenceIdeal.S1x1536.Idx) : abs' ((Cert.KernelIdeal.Gen.V m c Cert.KernelIdeal.main_v1 : Vec Ideal Cert.ReferenceIdeal.S1x1536 .f32) i) ≤ (((2 : ℝ) ^ 128 : ℝ) : EReal) := by
  have h := (of_pre _ _ _ _ _ (fun k => k.elim0) (congrFun (hp c) _)).2
  rw [Cert.KernelIdeal.Arrays.V_v1]
  exact h _

/-- The queries' codes agree. -/
theorem agree5 (hp : Cert.Pre_KernelIdeal_finite m) (h : Args m m' c) :
    (Cert.ReferenceIdeal.Gen.dats m' 0 c).arrAt 5 Cert.ReferenceIdeal.cfg0.N = (Cert.KernelIdeal.Run.dats m 0 c).arrAt 5 Cert.KernelIdeal.cfg0.N := by
  have e : k0_pay9 (k0_pay7 (k0_pay4 (Cert.ReferenceIdeal.Gen.V m' c Cert.ReferenceIdeal.main_v0)) (k0_pay5 (Cert.ReferenceIdeal.Gen.V m' c Cert.ReferenceIdeal.main_arg2)) (Cert.ReferenceIdeal.Gen.V m' c Cert.ReferenceIdeal.main_arg1) (Cert.ReferenceIdeal.Gen.V m' c Cert.ReferenceIdeal.main_v1)) (k0_pay8 (k0_pay4 (Cert.ReferenceIdeal.Gen.V m' c Cert.ReferenceIdeal.main_v0)) (k0_pay5 (Cert.ReferenceIdeal.Gen.V m' c Cert.ReferenceIdeal.main_arg2)) (Cert.ReferenceIdeal.Gen.V m' c Cert.ReferenceIdeal.main_arg1) (Cert.ReferenceIdeal.Gen.V m' c Cert.ReferenceIdeal.main_v1)) = k0_pay9 (k0_pay7 (k0_pay4 (Cert.KernelIdeal.Gen.V m c Cert.KernelIdeal.main_v0)) (k0_pay5 (Cert.KernelIdeal.Gen.V m c Cert.KernelIdeal.main_arg2)) (Cert.KernelIdeal.Gen.V m c Cert.KernelIdeal.main_arg1) (Cert.KernelIdeal.Gen.V m c Cert.KernelIdeal.main_v1)) (k0_pay8 (k0_pay4 (Cert.KernelIdeal.Gen.V m c Cert.KernelIdeal.main_v0)) (k0_pay5 (Cert.KernelIdeal.Gen.V m c Cert.KernelIdeal.main_arg2)) (Cert.KernelIdeal.Gen.V m c Cert.KernelIdeal.main_arg1) (Cert.KernelIdeal.Gen.V m c Cert.KernelIdeal.main_v1)) := by
    rw [v0 h, s h, w h, v1 h]
  exact (Cert.ReferenceIdeal.Arrays.final5 m' c).trans (e.trans (Cert.KernelIdeal.Arrays.final5 m c (bx hp) (bg hp)).symm)

/-- The queries' scales agree. -/
theorem agree6 (hp : Cert.Pre_KernelIdeal_finite m) (h : Args m m' c) :
    (Cert.ReferenceIdeal.Gen.dats m' 0 c).arrAt 6 Cert.ReferenceIdeal.cfg0.N = (Cert.KernelIdeal.Run.dats m 0 c).arrAt 6 Cert.KernelIdeal.cfg0.N := by
  have e : k0_pay8 (k0_pay4 (Cert.ReferenceIdeal.Gen.V m' c Cert.ReferenceIdeal.main_v0)) (k0_pay5 (Cert.ReferenceIdeal.Gen.V m' c Cert.ReferenceIdeal.main_arg2)) (Cert.ReferenceIdeal.Gen.V m' c Cert.ReferenceIdeal.main_arg1) (Cert.ReferenceIdeal.Gen.V m' c Cert.ReferenceIdeal.main_v1) = k0_pay8 (k0_pay4 (Cert.KernelIdeal.Gen.V m c Cert.KernelIdeal.main_v0)) (k0_pay5 (Cert.KernelIdeal.Gen.V m c Cert.KernelIdeal.main_arg2)) (Cert.KernelIdeal.Gen.V m c Cert.KernelIdeal.main_arg1) (Cert.KernelIdeal.Gen.V m c Cert.KernelIdeal.main_v1) := by
    rw [v0 h, s h, w h, v1 h]
  exact (Cert.ReferenceIdeal.Arrays.final6 m' c).trans (e.trans (Cert.KernelIdeal.Arrays.final6 m c (bx hp) (bg hp)).symm)

/-- The normalised compressed columns agree. -/
theorem agree7 (hp : Cert.Pre_KernelIdeal_finite m) (h : Args m m' c) :
    (Cert.ReferenceIdeal.Gen.dats m' 0 c).arrAt 7 Cert.ReferenceIdeal.cfg0.N = (Cert.KernelIdeal.Run.dats m 0 c).arrAt 7 Cert.KernelIdeal.cfg0.N := by
  have e : k0_pay10 (k0_pay6 (k0_pay4 (Cert.ReferenceIdeal.Gen.V m' c Cert.ReferenceIdeal.main_v0)) (k0_pay5 (Cert.ReferenceIdeal.Gen.V m' c Cert.ReferenceIdeal.main_arg2)) (Cert.ReferenceIdeal.Gen.V m' c Cert.ReferenceIdeal.main_arg1)) (Cert.ReferenceIdeal.Gen.V m' c Cert.ReferenceIdeal.main_v2) = k0_pay10 (k0_pay6 (k0_pay4 (Cert.KernelIdeal.Gen.V m c Cert.KernelIdeal.main_v0)) (k0_pay5 (Cert.KernelIdeal.Gen.V m c Cert.KernelIdeal.main_arg2)) (Cert.KernelIdeal.Gen.V m c Cert.KernelIdeal.main_arg1)) (Cert.KernelIdeal.Gen.V m c Cert.KernelIdeal.main_v2) := by
    rw [v0 h, s h, w h, v2 h]
  exact (Cert.ReferenceIdeal.Arrays.final7 m' c).trans (e.trans (Cert.KernelIdeal.Arrays.final7 m c (bx hp) (bg hp)).symm)

/-- The positional columns agree. -/
theorem agree8 (hp : Cert.Pre_KernelIdeal_finite m) (h : Args m m' c) :
    (Cert.ReferenceIdeal.Gen.dats m' 0 c).arrAt 8 Cert.ReferenceIdeal.cfg0.N = (Cert.KernelIdeal.Run.dats m 0 c).arrAt 8 Cert.KernelIdeal.cfg0.N := by
  have e : k0_pay11 (k0_pay6 (k0_pay4 (Cert.ReferenceIdeal.Gen.V m' c Cert.ReferenceIdeal.main_v0)) (k0_pay5 (Cert.ReferenceIdeal.Gen.V m' c Cert.ReferenceIdeal.main_arg2)) (Cert.ReferenceIdeal.Gen.V m' c Cert.ReferenceIdeal.main_arg1)) = k0_pay11 (k0_pay6 (k0_pay4 (Cert.KernelIdeal.Gen.V m c Cert.KernelIdeal.main_v0)) (k0_pay5 (Cert.KernelIdeal.Gen.V m c Cert.KernelIdeal.main_arg2)) (Cert.KernelIdeal.Gen.V m c Cert.KernelIdeal.main_arg1)) := by
    rw [v0 h, s h, w h]
  exact (Cert.ReferenceIdeal.Arrays.final8 m' c).trans (e.trans (Cert.KernelIdeal.Arrays.final8 m c (bx hp) (bg hp)).symm)

/-- The activations' codes agree. -/
theorem agree9 (hp : Cert.Pre_KernelIdeal_finite m) (h : Args m m' c) :
    (Cert.ReferenceIdeal.Gen.dats m' 0 c).arrAt 9 Cert.ReferenceIdeal.cfg0.N = (Cert.KernelIdeal.Run.dats m 0 c).arrAt 9 Cert.KernelIdeal.cfg0.N := by
  have e : k0_pay3 (Cert.ReferenceIdeal.Gen.V m' c Cert.ReferenceIdeal.main_v0) = k0_pay3 (Cert.KernelIdeal.Gen.V m c Cert.KernelIdeal.main_v0) := by
    rw [v0 h]
  exact (Cert.ReferenceIdeal.Arrays.final9 m' c).trans (e.trans (Cert.KernelIdeal.Arrays.final9 m c (bx hp) (bg hp)).symm)

/-- The activations' scales agree. -/
theorem agree10 (hp : Cert.Pre_KernelIdeal_finite m) (h : Args m m' c) :
    (Cert.ReferenceIdeal.Gen.dats m' 0 c).arrAt 10 Cert.ReferenceIdeal.cfg0.N = (Cert.KernelIdeal.Run.dats m 0 c).arrAt 10 Cert.KernelIdeal.cfg0.N := by
  have e : k0_pay2 (Cert.ReferenceIdeal.Gen.V m' c Cert.ReferenceIdeal.main_v0) = k0_pay2 (Cert.KernelIdeal.Gen.V m c Cert.KernelIdeal.main_v0) := by
    rw [v0 h]
  exact (Cert.ReferenceIdeal.Arrays.final10 m' c).trans (e.trans (Cert.KernelIdeal.Arrays.final10 m c (bx hp) (bg hp)).symm)

end Cert.Agree

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_finite
public import proofs.«01_k».proof.Proof.KernelRun
public import proofs.«01_k».proof.Proof.Agree
public import Idealize.ShloMosaic.Adequacy
public import Idealize.ShloMosaic.Init

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite.Gen.facts

/-- Under the precondition the kernel and the reference end with equal results, all six of them. -/
theorem algebraic : Cert.algebraic_KernelIdeal_ReferenceIdeal_pre_finite := by
  intro m g m' g' hp ha
  have h : ∀ c, Cert.Agree.Args m m' c := fun c => ⟨(ha c).1, (ha c).2.1, (ha c).2.2.1, (ha c).2.2.2.1, (ha c).2.2.2.2⟩
  refine ⟨fun c => (Cert.KernelIdeal.Run.dats m 0 c).arrAt 5 Cert.KernelIdeal.cfg0.N, fun c => (Cert.KernelIdeal.Run.dats m 0 c).arrAt 6 Cert.KernelIdeal.cfg0.N,
    fun c => (Cert.KernelIdeal.Run.dats m 0 c).arrAt 7 Cert.KernelIdeal.cfg0.N, fun c => (Cert.KernelIdeal.Run.dats m 0 c).arrAt 8 Cert.KernelIdeal.cfg0.N,
    fun c => (Cert.KernelIdeal.Run.dats m 0 c).arrAt 9 Cert.KernelIdeal.cfg0.N, fun c => (Cert.KernelIdeal.Run.dats m 0 c).arrAt 10 Cert.KernelIdeal.cfg0.N, ?_, ?_⟩
  · refine (θ_run Cert.KernelIdeal.defs _ _).mono (fun r hr c => ?_) (θ_run_and (Cert.KernelIdeal.Run.run_main m g) (Cert.KernelIdeal.Run.frame m g))
    have a := hr.2.1 c
    exact ⟨(hr.1 c).1 5, (hr.1 c).1 6, (hr.1 c).1 7, (hr.1 c).1 8, (hr.1 c).1 9, (hr.1 c).1 10, a.1, a.2.1, a.2.2.1, a.2.2.2.1, a.2.2.2.2⟩
  · refine (θ_run Cert.ReferenceIdeal.defs _ _).mono (fun r hr c => ?_) (Cert.ReferenceIdeal.Value.run_blocks m' g')
    obtain ⟨h5, h6, h7, h8, h9, h10, ha⟩ := hr c
    exact ⟨h5.trans (Cert.Agree.agree5 hp (h c)), h6.trans (Cert.Agree.agree6 hp (h c)), h7.trans (Cert.Agree.agree7 hp (h c)),
      h8.trans (Cert.Agree.agree8 hp (h c)), h9.trans (Cert.Agree.agree9 hp (h c)), h10.trans (Cert.Agree.agree10 hp (h c)), ha⟩

/-- Everything claimed. -/
theorem claim : Cert.Claim :=
  ⟨Cert.Kernel.Gen.facts, Cert.KernelIdeal.Gen.facts, Cert.ReferenceIdeal.Gen.facts, Cert.Pre_finite.Gen.facts,
    fun m g _ => Cert.Kernel.Run.frame m g,
    fun m g _ => Cert.KernelIdeal.Run.frame m g,
    fun m g _ => Cert.KernelIdeal.Run.frame m g,
    fun m g _ => Cert.ReferenceIdeal.Gen.frame m g,
    fun m g _ => Cert.ReferenceIdeal.Gen.frame m g,
    trivial, algebraic⟩

end Cert.Proof

end
